-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v264) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S100000x6 : Shape := ⟨2, ![100000, 6]⟩
abbrev S100000 : Shape := ⟨1, ![100000]⟩
abbrev S10000 : Shape := ⟨1, ![10000]⟩
abbrev S2 : Shape := ⟨1, ![2]⟩
abbrev S256 : Shape := ⟨1, ![256]⟩
abbrev S_ : Shape := ⟨0, ![]⟩
abbrev S1 : Shape := ⟨1, ![1]⟩

class Facts : Prop where
  reducesTo_S10000_S_d0 : S10000.ReducesTo [0] S_
  h_S_ : 0 < S_.numel
  bcast_S_S10000 : S_.BroadcastsInDim S10000 (![] : Fin 0 → Fin S10000.rank)
  slices_S2_S1_0 : S2.Slices ![0] S1
  shapeCasts_S1_S_ : S1.ShapeCasts S_
  slices_S2_S1_1 : S2.Slices ![1] S1
  bcast_S_S256 : S_.BroadcastsInDim S256 (![] : Fin 0 → Fin S256.rank)
  reducesTo_S256_S_d0 : S256.ReducesTo [0] S_

variable [Facts]

def fn_part1 {F : FTy → Type} [FloatOps F] (main_arg8 : FVec F S256 .f32) (main_v14 : IVec S_ 1) (main_v16 : FVec F S_ .f32) (main_v17 : FVec F S1 .f32) : IVec S_ 1 :=
  let main_v18 : FVec F S_ .f32 := shapeCast S_ main_v17 shapeCasts_S1_S_
  let main_v19 : FVec F S_ .f32 := subf main_v16 main_v18
  let main_cst_4 : FVec F S_ .f32 := constant S_ .f32 0x00000000#32
  let main_v20 : IVec S_ 1 := cmpf .oge main_v19 main_cst_4
  let main_v21 : IVec S_ 1 := andi main_v14 main_v20
  let main_cst_5 : FVec F S_ .f32 := constant S_ .f32 0x3F800000#32
  let main_v22 : FVec F S256 .f32 := broadcastInDim S256 ![] bcast_S_S256 main_cst_5
  let main_v23 : IVec S256 1 := cmpf .ole main_arg8 main_v22
  let main_c_6 : IVec S_ 1 := constantI S_ 1 1#1
  let main_v24 : IVec S_ 1 := (fun x v => Host.reduce IntOp.andi x v reducesTo_S256_S_d0 h_S_) main_v23 main_c_6
  let main_v25 : IVec S_ 1 := andi main_v21 main_v24
  main_v25

def fn {F : FTy → Type} [FloatOps F] (main_arg0 : FVec F S100000x6 .f32) (main_arg1 : FVec F S100000 .f32) (main_arg2 : FVec F S100000 .f32) (main_arg3 : FVec F S10000 .f32) (main_arg4 : FVec F S10000 .f32) (main_arg5 : FVec F S2 .f32) (main_arg6 : FVec F S2 .f32) (main_arg7 : FVec F S256 .f32) (main_arg8 : FVec F S256 .f32) (main_arg9 : FVec F S256 .f32) (main_arg10 : FVec F S256 .f32) (main_arg11 : FVec F S256 .f32) : IVec S_ 1 :=
  let main_cst : FVec F S_ .f32 := constant S_ .f32 0x00000000#32
  let main_v0 : FVec F S_ .f32 := (fun x v => Host.reduceAdd x v reducesTo_S10000_S_d0 h_S_) main_arg4 main_cst
  let main_cst_0 : FVec F S_ .f32 := constant S_ .f32 0x00000000#32
  let main_v1 : FVec F S10000 .f32 := broadcastInDim S10000 ![] bcast_S_S10000 main_cst_0
  let main_v2 : IVec S10000 1 := cmpf .oge main_arg4 main_v1
  let main_c : IVec S_ 1 := constantI S_ 1 1#1
  let main_v3 : IVec S_ 1 := (fun x v => Host.reduce IntOp.andi x v reducesTo_S10000_S_d0 h_S_) main_v2 main_c
  let main_cst_1 : FVec F S_ .f32 := constant S_ .f32 0x00000000#32
  let main_v4 : IVec S_ 1 := cmpf .ogt main_v0 main_cst_1
  let main_v5 : IVec S_ 1 := andi main_v3 main_v4
  let main_cst_2 : FVec F S_ .f32 := constant S_ .f32 0x7F800000#32
  let main_v6 : IVec S_ 1 := cmpf .olt main_v0 main_cst_2
  let main_v7 : IVec S_ 1 := andi main_v5 main_v6
  let main_v8 : FVec F S1 .f32 := (extractStridedSlice S1 ![0] · slices_S2_S1_0) main_arg6
  let main_v9 : FVec F S_ .f32 := shapeCast S_ main_v8 shapeCasts_S1_S_
  let main_v10 : FVec F S1 .f32 := (extractStridedSlice S1 ![0] · slices_S2_S1_0) main_arg5
  let main_v11 : FVec F S_ .f32 := shapeCast S_ main_v10 shapeCasts_S1_S_
  let main_v12 : FVec F S_ .f32 := subf main_v9 main_v11
  let main_cst_3 : FVec F S_ .f32 := constant S_ .f32 0x00000000#32
  let main_v13 : IVec S_ 1 := cmpf .oge main_v12 main_cst_3
  let main_v14 : IVec S_ 1 := andi main_v7 main_v13
  let main_v15 : FVec F S1 .f32 := (extractStridedSlice S1 ![1] · slices_S2_S1_1) main_arg5
  let main_v16 : FVec F S_ .f32 := shapeCast S_ main_v15 shapeCasts_S1_S_
  let main_v17 : FVec F S1 .f32 := (extractStridedSlice S1 ![1] · slices_S2_S1_1) main_arg6
  fn_part1 (F := F) main_arg8 main_v14 main_v16 main_v17
-- ==== Kernel.lean ====
abbrev S100000x6 : Shape := ⟨2, ![100000, 6]⟩
abbrev S100000 : Shape := ⟨1, ![100000]⟩
abbrev S10000 : Shape := ⟨1, ![10000]⟩
abbrev S2 : Shape := ⟨1, ![2]⟩
abbrev S256 : Shape := ⟨1, ![256]⟩
abbrev S_ : Shape := ⟨0, ![]⟩
abbrev S9999 : Shape := ⟨1, ![9999]⟩
abbrev S1 : Shape := ⟨1, ![1]⟩
abbrev S1x10000 : Shape := ⟨2, ![1, 10000]⟩
abbrev S256x1 : Shape := ⟨2, ![256, 1]⟩
abbrev S256x10000 : Shape := ⟨2, ![256, 10000]⟩
abbrev S256x3 : Shape := ⟨2, ![256, 3]⟩
abbrev S50x1x2000 : Shape := ⟨3, ![50, 1, 2000]⟩
abbrev S100000x1 : Shape := ⟨2, ![100000, 1]⟩
abbrev S10240 : Shape := ⟨1, ![10240]⟩
abbrev S80x128 : Shape := ⟨2, ![80, 128]⟩
abbrev S4 : Shape := ⟨1, ![4]⟩
abbrev S1x4 : Shape := ⟨2, ![1, 4]⟩
abbrev S256x12 : Shape := ⟨2, ![256, 12]⟩
abbrev S1x1x2000 : Shape := ⟨3, ![1, 1, 2000]⟩
abbrev S2000x6 : Shape := ⟨2, ![2000, 6]⟩
abbrev S2000x1 : Shape := ⟨2, ![2000, 1]⟩
abbrev S256x2 : Shape := ⟨2, ![256, 2]⟩
abbrev S256x8 : Shape := ⟨2, ![256, 8]⟩
abbrev S1x80x128 : Shape := ⟨3, ![1, 80, 128]⟩
abbrev S1x1x1 : Shape := ⟨3, ![1, 1, 1]⟩
abbrev S1x1 : Shape := ⟨2, ![1, 1]⟩
abbrev S128x128 : Shape := ⟨2, ![128, 128]⟩
abbrev S80x1 : Shape := ⟨2, ![80, 1]⟩
abbrev S80x80 : Shape := ⟨2, ![80, 80]⟩
abbrev S80 : Shape := ⟨1, ![80]⟩
abbrev S1x80 : Shape := ⟨2, ![1, 80]⟩
abbrev S256x80 : Shape := ⟨2, ![256, 80]⟩
abbrev S256x128 : Shape := ⟨2, ![256, 128]⟩
abbrev S16x128 : Shape := ⟨2, ![16, 128]⟩
abbrev S16x16 : Shape := ⟨2, ![16, 16]⟩
abbrev S16x1 : Shape := ⟨2, ![16, 1]⟩
abbrev S16 : Shape := ⟨1, ![16]⟩
abbrev S1x16 : Shape := ⟨2, ![1, 16]⟩
abbrev S256x16 : Shape := ⟨2, ![256, 16]⟩
abbrev S1x2000 : Shape := ⟨2, ![1, 2000]⟩
abbrev S256x2000 : Shape := ⟨2, ![256, 2000]⟩
abbrev S256x6 : Shape := ⟨2, ![256, 6]⟩

abbrev nBuf : Space → Nat
  | .hbm => 129
  | .vmem => 15
  | .smem => 0
  | _ => 0

abbrev hbmTy0_0 (i : Nat) : BufTy := match i % 128 with
  | 0 => ⟨S100000x6, .f32⟩
  | 1 => ⟨S100000, .f32⟩
  | 2 => ⟨S100000, .f32⟩
  | 3 => ⟨S10000, .f32⟩
  | 4 => ⟨S10000, .f32⟩
  | 5 => ⟨S2, .f32⟩
  | 6 => ⟨S2, .f32⟩
  | 7 => ⟨S256, .f32⟩
  | 8 => ⟨S256, .f32⟩
  | 9 => ⟨S256, .f32⟩
  | 10 => ⟨S256, .f32⟩
  | 11 => ⟨S256, .f32⟩
  | 12 => ⟨S_, .f32⟩
  | 13 => ⟨S256, .f32⟩
  | 14 => ⟨S_, .f32⟩
  | 15 => ⟨S256, .f32⟩
  | 16 => ⟨S256, .f32⟩
  | 17 => ⟨S256, .f32⟩
  | 18 => ⟨S256, .f32⟩
  | 19 => ⟨S256, .f32⟩
  | 20 => ⟨S_, .f32⟩
  | 21 => ⟨S256, .f32⟩
  | 22 => ⟨S256, .f32⟩
  | 23 => ⟨S_, .f32⟩
  | 24 => ⟨S256, .f32⟩
  | 25 => ⟨S256, .f32⟩
  | 26 => ⟨S_, .f32⟩
  | 27 => ⟨S256, .f32⟩
  | 28 => ⟨S256, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S9999, .f32⟩
  | 41 => ⟨S_, .f32⟩
  | 42 => ⟨S9999, .f32⟩
  | 43 => ⟨S9999, .f32⟩
  | 44 => ⟨S1, .f32⟩
  | 45 => ⟨S_, .f32⟩
  | 46 => ⟨S9999, .f32⟩
  | 47 => ⟨S9999, .f32⟩
  | 48 => ⟨S9999, .f32⟩
  | 49 => ⟨S9999, .f32⟩
  | 50 => ⟨S1, .f32⟩
  | 51 => ⟨S9999, .f32⟩
  | 52 => ⟨S9999, .f32⟩
  | 53 => ⟨S9999, .f32⟩
  | 54 => ⟨S1, .f32⟩
  | 55 => ⟨S10000, .f32⟩
  | 56 => ⟨S10000, .f32⟩
  | 57 => ⟨S_, .f32⟩
  | 58 => ⟨S10000, .f32⟩
  | 59 => ⟨S10000, .f32⟩
  | 60 => ⟨S10000, .f32⟩
  | 61 => ⟨S10000, .f32⟩
  | 62 => ⟨S_, .f32⟩
  | 63 => ⟨S10000, .f32⟩
  | 64 => ⟨S10000, .f32⟩
  | 65 => ⟨S10000, .f32⟩
  | 66 => ⟨S10000, .f32⟩
  | 67 => ⟨S_, .f32⟩
  | 68 => ⟨S_, .f32⟩
  | 69 => ⟨S10000, .f32⟩
  | 70 => ⟨S10000, .f32⟩
  | 71 => ⟨S_, .f32⟩
  | 72 => ⟨S_, .f32⟩
  | 73 => ⟨S10000, .f32⟩
  | 74 => ⟨S1, .f32⟩
  | 75 => ⟨S_, .f32⟩
  | 76 => ⟨S_, .f32⟩
  | 77 => ⟨S256, .f32⟩
  | 78 => ⟨S256, .f32⟩
  | 79 => ⟨S256, .f32⟩
  | 80 => ⟨S256, .f32⟩
  | 81 => ⟨S1x10000, .f32⟩
  | 82 => ⟨S256x1, .f32⟩
  | 83 => ⟨S256x10000, .f32⟩
  | 84 => ⟨S256x10000, .f32⟩
  | 85 => ⟨S256x10000, .i1⟩
  | 86 => ⟨S256x10000, .i32⟩
  | 87 => ⟨S_, .i32⟩
  | 88 => ⟨S256, .i32⟩
  | 89 => ⟨S_, .i32⟩
  | 90 => ⟨S256, .i32⟩
  | 91 => ⟨S256, .i1⟩
  | 92 => ⟨S_, .i32⟩
  | 93 => ⟨S256, .i32⟩
  | 94 => ⟨S256, .i32⟩
  | 95 => ⟨S256, .i32⟩
  | 96 => ⟨S256x1, .i32⟩
  | 97 => ⟨S256, .f32⟩
  | 98 => ⟨S256x1, .f32⟩
  | 99 => ⟨S256x1, .f32⟩
  | 100 => ⟨S256x1, .f32⟩
  | 101 => ⟨S256x3, .f32⟩
  | 102 => ⟨S50x1x2000, .f32⟩
  | 103 => ⟨S100000x1, .f32⟩
  | 104 => ⟨S_, .i32⟩
  | 105 => ⟨S_, .f32⟩
  | 106 => ⟨S10240, .f32⟩
  | 107 => ⟨S80x128, .f32⟩
  | 108 => ⟨S_, .i32⟩
  | 109 => ⟨S_, .f32⟩
  | 110 => ⟨S10240, .f32⟩
  | 111 => ⟨S80x128, .f32⟩
  | 112 => ⟨S1, .f32⟩
  | 113 => ⟨S_, .f32⟩
  | 114 => ⟨S1, .f32⟩
  | 115 => ⟨S_, .f32⟩
  | 116 => ⟨S1, .f32⟩
  | 117 => ⟨S_, .f32⟩
  | 118 => ⟨S1, .f32⟩
  | 119 => ⟨S_, .f32⟩
  | 120 => ⟨S1, .f32⟩
  | 121 => ⟨S1, .f32⟩
  | 122 => ⟨S1, .f32⟩
  | 123 => ⟨S1, .f32⟩
  | 124 => ⟨S4, .f32⟩
  | 125 => ⟨S1x4, .f32⟩
  | 126 => ⟨S256x1, .f32⟩
  | 127 => ⟨S256x1, .f32⟩
  | _ => ⟨S100000x6, .f32⟩

abbrev hbmTy0_1 (i : Nat) : BufTy := match i % 128 with
  | 0 => ⟨S256x12, .f32⟩
  | _ => ⟨S100000x6, .f32⟩

abbrev hbmTy (i : Nat) : BufTy := match i / 128 with
  | 0 => hbmTy0_0 i
  | 1 => hbmTy0_1 i
  | _ => ⟨S100000x6, .f32⟩

abbrev bufTy : (tb : Table) → Fin (tcTables nBuf tb) → BufTy
  | .hbm, ⟨i, _⟩ => hbmTy i
  | .local _ .vmem, ⟨0, _⟩ => ⟨S1x4, .f32⟩
  | .local _ .vmem, ⟨1, _⟩ => ⟨S256x1, .f32⟩
  | .local _ .vmem, ⟨2, _⟩ => ⟨S256x1, .f32⟩
  | .local _ .vmem, ⟨3, _⟩ => ⟨S256x3, .f32⟩
  | .local _ .vmem, ⟨4, _⟩ => ⟨S80x128, .f32⟩
  | .local _ .vmem, ⟨5, _⟩ => ⟨S80x128, .f32⟩
  | .local _ .vmem, ⟨6, _⟩ => ⟨S1x1x2000, .f32⟩
  | .local _ .vmem, ⟨7, _⟩ => ⟨S1x1x2000, .f32⟩
  | .local _ .vmem, ⟨8, _⟩ => ⟨S2000x6, .f32⟩
  | .local _ .vmem, ⟨9, _⟩ => ⟨S2000x6, .f32⟩
  | .local _ .vmem, ⟨10, _⟩ => ⟨S2000x1, .f32⟩
  | .local _ .vmem, ⟨11, _⟩ => ⟨S2000x1, .f32⟩
  | .local _ .vmem, ⟨12, _⟩ => ⟨S256x12, .f32⟩
  | .local _ .vmem, ⟨13, _⟩ => ⟨S256x2, .f32⟩
  | .local _ .vmem, ⟨14, _⟩ => ⟨S256x8, .f32⟩
  | _, _ => ⟨S100000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_cst_3 : Ref sig .tc := ⟨.hbm, 26, rfl⟩
abbrev main_v10 : Ref sig .tc := ⟨.hbm, 27, rfl⟩
abbrev main_v11 : Ref sig .tc := ⟨.hbm, 28, rfl⟩
abbrev main_cst_4 : Ref sig .tc := ⟨.hbm, 29, rfl⟩
abbrev main_v12 : Ref sig .tc := ⟨.hbm, 30, rfl⟩
abbrev main_cst_5 : Ref sig .tc := ⟨.hbm, 31, rfl⟩
abbrev main_v13 : Ref sig .tc := ⟨.hbm, 32, rfl⟩
abbrev main_cst_6 : Ref sig .tc := ⟨.hbm, 33, rfl⟩
abbrev main_cst_7 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_cst : Ref sig .tc := ⟨.hbm, 38, rfl⟩
abbrev main_call0_v3 : Ref sig .tc := ⟨.hbm, 39, rfl⟩
abbrev main_call0_v4 : Ref sig .tc := ⟨.hbm, 40, rfl⟩
abbrev main_call0_cst_0 : Ref sig .tc := ⟨.hbm, 41, rfl⟩
abbrev main_call0_v5 : Ref sig .tc := ⟨.hbm, 42, rfl⟩
abbrev main_call0_v6 : Ref sig .tc := ⟨.hbm, 43, rfl⟩
abbrev main_call0_v7 : Ref sig .tc := ⟨.hbm, 44, rfl⟩
abbrev main_call0_cst_1 : Ref sig .tc := ⟨.hbm, 45, rfl⟩
abbrev main_call0_v8 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_v12 : Ref sig .tc := ⟨.hbm, 50, rfl⟩
abbrev main_call0_v13 : Ref sig .tc := ⟨.hbm, 51, rfl⟩
abbrev main_call0_v14 : Ref sig .tc := ⟨.hbm, 52, rfl⟩
abbrev main_call0_v15 : Ref sig .tc := ⟨.hbm, 53, rfl⟩
abbrev main_call0_v16 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_cst_8 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_cst_9 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_call1_call0_cst : Ref sig .tc := ⟨.hbm, 71, rfl⟩
abbrev main_call1_call0_v0 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_cst_10 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_c : Ref sig .tc := ⟨.hbm, 87, rfl⟩
abbrev main_v41 : Ref sig .tc := ⟨.hbm, 88, rfl⟩
abbrev main_c_11 : Ref sig .tc := ⟨.hbm, 89, rfl⟩
abbrev main_v42 : Ref sig .tc := ⟨.hbm, 90, rfl⟩
abbrev main_v43 : Ref sig .tc := ⟨.hbm, 91, rfl⟩
abbrev main_c_12 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_c_13 : Ref sig .tc := ⟨.hbm, 104, rfl⟩
abbrev main_call2_v0 : Ref sig .tc := ⟨.hbm, 105, rfl⟩
abbrev main_v55 : Ref sig .tc := ⟨.hbm, 106, rfl⟩
abbrev main_v56 : Ref sig .tc := ⟨.hbm, 107, rfl⟩
abbrev main_c_14 : Ref sig .tc := ⟨.hbm, 108, rfl⟩
abbrev main_call3_v0 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c49_i32 : BitVec 32 := 49#32
  let v41 : BitVec 1 := Scalar.cmpi .eq arg0 c49_i32
  let v42 : BitVec 32 := Scalar.extui v41
  let c0_i32_22 : BitVec 32 := 0#32
  let v43 : BitVec 1 := Scalar.cmpi .ne v42 c0_i32_22
  v43

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S80x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S80x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x2000 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2000x6 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2000x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S256x12 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S100000x6 : Shape := ⟨2, ![100000, 6]⟩
abbrev S100000 : Shape := ⟨1, ![100000]⟩
abbrev S10000 : Shape := ⟨1, ![10000]⟩
abbrev S2 : Shape := ⟨1, ![2]⟩
abbrev S256 : Shape := ⟨1, ![256]⟩
abbrev S_ : Shape := ⟨0, ![]⟩
abbrev S1 : Shape := ⟨1, ![1]⟩
abbrev S1x10000 : Shape := ⟨2, ![1, 10000]⟩
abbrev S256x1 : Shape := ⟨2, ![256, 1]⟩
abbrev S256x10000 : Shape := ⟨2, ![256, 10000]⟩
abbrev S999 : Shape := ⟨1, ![999]⟩
abbrev S1000 : Shape := ⟨1, ![1000]⟩
abbrev S2000 : Shape := ⟨1, ![2000]⟩
abbrev S1x2000 : Shape := ⟨2, ![1, 2000]⟩
abbrev S256x2000 : Shape := ⟨2, ![256, 2000]⟩
abbrev S9999 : Shape := ⟨1, ![9999]⟩
abbrev S1x100000 : Shape := ⟨2, ![1, 100000]⟩
abbrev S256x100000 : Shape := ⟨2, ![256, 100000]⟩
abbrev S256x6 : Shape := ⟨2, ![256, 6]⟩
abbrev S256x12 : Shape := ⟨2, ![256, 12]⟩

abbrev nBuf : Space → Nat
  | .hbm => 398
  | .vmem => 0
  | .smem => 0
  | _ => 0

abbrev hbmTy0_0 (i : Nat) : BufTy := match i % 128 with
  | 0 => ⟨S100000x6, .f32⟩
  | 1 => ⟨S100000, .f32⟩
  | 2 => ⟨S100000, .f32⟩
  | 3 => ⟨S10000, .f32⟩
  | 4 => ⟨S10000, .f32⟩
  | 5 => ⟨S2, .f32⟩
  | 6 => ⟨S2, .f32⟩
  | 7 => ⟨S256, .f32⟩
  | 8 => ⟨S256, .f32⟩
  | 9 => ⟨S256, .f32⟩
  | 10 => ⟨S256, .f32⟩
  | 11 => ⟨S256, .f32⟩
  | 12 => ⟨S_, .f32⟩
  | 13 => ⟨S256, .f32⟩
  | 14 => ⟨S_, .f32⟩
  | 15 => ⟨S256, .f32⟩
  | 16 => ⟨S256, .f32⟩
  | 17 => ⟨S256, .f32⟩
  | 18 => ⟨S256, .f32⟩
  | 19 => ⟨S256, .f32⟩
  | 20 => ⟨S_, .f32⟩
  | 21 => ⟨S_, .f32⟩
  | 22 => ⟨S10000, .f32⟩
  | 23 => ⟨S10000, .f32⟩
  | 24 => ⟨S_, .f32⟩
  | 25 => ⟨S_, .f32⟩
  | 26 => ⟨S10000, .f32⟩
  | 27 => ⟨S1, .f32⟩
  | 28 => ⟨S_, .f32⟩
  | 29 => ⟨S10000, .f32⟩
  | 30 => ⟨S10000, .f32⟩
  | 31 => ⟨S1x10000, .f32⟩
  | 32 => ⟨S256x1, .f32⟩
  | 33 => ⟨S256x10000, .f32⟩
  | 34 => ⟨S256x10000, .f32⟩
  | 35 => ⟨S256x10000, .i1⟩
  | 36 => ⟨S256x10000, .i32⟩
  | 37 => ⟨S_, .i32⟩
  | 38 => ⟨S256, .i32⟩
  | 39 => ⟨S_, .i32⟩
  | 40 => ⟨S_, .i32⟩
  | 41 => ⟨S_, .i32⟩
  | 42 => ⟨S256, .i32⟩
  | 43 => ⟨S256, .i32⟩
  | 44 => ⟨S_, .i32⟩
  | 45 => ⟨S256, .i32⟩
  | 46 => ⟨S256, .i32⟩
  | 47 => ⟨S_, .i32⟩
  | 48 => ⟨S256, .i32⟩
  | 49 => ⟨S256, .i1⟩
  | 50 => ⟨S_, .i32⟩
  | 51 => ⟨S256, .i32⟩
  | 52 => ⟨S256, .i32⟩
  | 53 => ⟨S256, .i32⟩
  | 54 => ⟨S256x1, .i32⟩
  | 55 => ⟨S256, .f32⟩
  | 56 => ⟨S_, .i32⟩
  | 57 => ⟨S256, .i32⟩
  | 58 => ⟨S256, .i32⟩
  | 59 => ⟨S_, .i32⟩
  | 60 => ⟨S256, .i32⟩
  | 61 => ⟨S256, .i1⟩
  | 62 => ⟨S_, .i32⟩
  | 63 => ⟨S256, .i32⟩
  | 64 => ⟨S256, .i32⟩
  | 65 => ⟨S256, .i32⟩
  | 66 => ⟨S256x1, .i32⟩
  | 67 => ⟨S256, .f32⟩
  | 68 => ⟨S256, .f32⟩
  | 69 => ⟨S_, .i32⟩
  | 70 => ⟨S256, .i32⟩
  | 71 => ⟨S256, .i1⟩
  | 72 => ⟨S_, .i32⟩
  | 73 => ⟨S256, .i32⟩
  | 74 => ⟨S256, .i32⟩
  | 75 => ⟨S256, .i32⟩
  | 76 => ⟨S256x1, .i32⟩
  | 77 => ⟨S256, .f32⟩
  | 78 => ⟨S_, .i32⟩
  | 79 => ⟨S256, .i32⟩
  | 80 => ⟨S256, .i32⟩
  | 81 => ⟨S_, .i32⟩
  | 82 => ⟨S256, .i32⟩
  | 83 => ⟨S256, .i1⟩
  | 84 => ⟨S_, .i32⟩
  | 85 => ⟨S256, .i32⟩
  | 86 => ⟨S256, .i32⟩
  | 87 => ⟨S256, .i32⟩
  | 88 => ⟨S256x1, .i32⟩
  | 89 => ⟨S256, .f32⟩
  | 90 => ⟨S256, .f32⟩
  | 91 => ⟨S_, .i32⟩
  | 92 => ⟨S256, .i32⟩
  | 93 => ⟨S256, .i32⟩
  | 94 => ⟨S_, .i32⟩
  | 95 => ⟨S256, .i32⟩
  | 96 => ⟨S256, .i1⟩
  | 97 => ⟨S_, .i32⟩
  | 98 => ⟨S256, .i32⟩
  | 99 => ⟨S256, .i32⟩
  | 100 => ⟨S256, .i32⟩
  | 101 => ⟨S256x1, .i32⟩
  | 102 => ⟨S256, .f32⟩
  | 103 => ⟨S256, .f32⟩
  | 104 => ⟨S256, .f32⟩
  | 105 => ⟨S_, .f32⟩
  | 106 => ⟨S256, .f32⟩
  | 107 => ⟨S256, .i1⟩
  | 108 => ⟨S_, .i32⟩
  | 109 => ⟨S256, .i32⟩
  | 110 => ⟨S256, .i32⟩
  | 111 => ⟨S_, .i32⟩
  | 112 => ⟨S256, .i32⟩
  | 113 => ⟨S256, .i1⟩
  | 114 => ⟨S_, .i32⟩
  | 115 => ⟨S256, .i32⟩
  | 116 => ⟨S256, .i32⟩
  | 117 => ⟨S256, .i32⟩
  | 118 => ⟨S256x1, .i32⟩
  | 119 => ⟨S256, .f32⟩
  | 120 => ⟨S_, .i32⟩
  | 121 => ⟨S256, .i32⟩
  | 122 => ⟨S256, .i32⟩
  | 123 => ⟨S_, .i32⟩
  | 124 => ⟨S256, .i32⟩
  | 125 => ⟨S256, .i1⟩
  | 126 => ⟨S_, .i32⟩
  | 127 => ⟨S256, .i32⟩
  | _ => ⟨S100000x6, .f32⟩

abbrev hbmTy0_1 (i : Nat) : BufTy := match i % 128 with
  | 0 => ⟨S256, .i32⟩
  | 1 => ⟨S256, .i32⟩
  | 2 => ⟨S256x1, .i32⟩
  | 3 => ⟨S256, .f32⟩
  | 4 => ⟨S_, .f32⟩
  | 5 => ⟨S_, .f32⟩
  | 6 => ⟨S256, .f32⟩
  | 7 => ⟨S256, .f32⟩
  | 8 => ⟨S256, .f32⟩
  | 9 => ⟨S256, .f32⟩
  | 10 => ⟨S256, .f32⟩
  | 11 => ⟨S256, .f32⟩
  | 12 => ⟨S1, .f32⟩
  | 13 => ⟨S_, .f32⟩
  | 14 => ⟨S256, .f32⟩
  | 15 => ⟨S256, .i1⟩
  | 16 => ⟨S1, .f32⟩
  | 17 => ⟨S_, .f32⟩
  | 18 => ⟨S256, .f32⟩
  | 19 => ⟨S256, .f32⟩
  | 20 => ⟨S1, .f32⟩
  | 21 => ⟨S_, .f32⟩
  | 22 => ⟨S256, .f32⟩
  | 23 => ⟨S256, .i1⟩
  | 24 => ⟨S1, .f32⟩
  | 25 => ⟨S_, .f32⟩
  | 26 => ⟨S256, .f32⟩
  | 27 => ⟨S256, .f32⟩
  | 28 => ⟨S1, .f32⟩
  | 29 => ⟨S_, .f32⟩
  | 30 => ⟨S1, .f32⟩
  | 31 => ⟨S_, .f32⟩
  | 32 => ⟨S_, .f32⟩
  | 33 => ⟨S_, .f32⟩
  | 34 => ⟨S_, .f32⟩
  | 35 => ⟨S999, .f32⟩
  | 36 => ⟨S_, .f32⟩
  | 37 => ⟨S999, .f32⟩
  | 38 => ⟨S999, .f32⟩
  | 39 => ⟨S1, .f32⟩
  | 40 => ⟨S_, .f32⟩
  | 41 => ⟨S999, .f32⟩
  | 42 => ⟨S999, .f32⟩
  | 43 => ⟨S999, .f32⟩
  | 44 => ⟨S999, .f32⟩
  | 45 => ⟨S1, .f32⟩
  | 46 => ⟨S999, .f32⟩
  | 47 => ⟨S999, .f32⟩
  | 48 => ⟨S999, .f32⟩
  | 49 => ⟨S1, .f32⟩
  | 50 => ⟨S1000, .f32⟩
  | 51 => ⟨S1, .f32⟩
  | 52 => ⟨S_, .f32⟩
  | 53 => ⟨S1, .f32⟩
  | 54 => ⟨S_, .f32⟩
  | 55 => ⟨S_, .f32⟩
  | 56 => ⟨S_, .f32⟩
  | 57 => ⟨S_, .f32⟩
  | 58 => ⟨S999, .f32⟩
  | 59 => ⟨S_, .f32⟩
  | 60 => ⟨S999, .f32⟩
  | 61 => ⟨S999, .f32⟩
  | 62 => ⟨S1, .f32⟩
  | 63 => ⟨S_, .f32⟩
  | 64 => ⟨S999, .f32⟩
  | 65 => ⟨S999, .f32⟩
  | 66 => ⟨S999, .f32⟩
  | 67 => ⟨S999, .f32⟩
  | 68 => ⟨S1, .f32⟩
  | 69 => ⟨S999, .f32⟩
  | 70 => ⟨S999, .f32⟩
  | 71 => ⟨S999, .f32⟩
  | 72 => ⟨S1, .f32⟩
  | 73 => ⟨S1000, .f32⟩
  | 74 => ⟨S2000, .f32⟩
  | 75 => ⟨S1, .f32⟩
  | 76 => ⟨S_, .f32⟩
  | 77 => ⟨S1, .f32⟩
  | 78 => ⟨S_, .f32⟩
  | 79 => ⟨S_, .f32⟩
  | 80 => ⟨S1, .f32⟩
  | 81 => ⟨S_, .f32⟩
  | 82 => ⟨S1, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S1000, .f32⟩
  | 94 => ⟨S1000, .f32⟩
  | 95 => ⟨S1000, .f32⟩
  | 96 => ⟨S_, .f32⟩
  | 97 => ⟨S1000, .f32⟩
  | 98 => ⟨S1000, .f32⟩
  | 99 => ⟨S1000, .f32⟩
  | 100 => ⟨S2000, .f32⟩
  | 101 => ⟨S_, .f32⟩
  | 102 => ⟨S_, .f32⟩
  | 103 => ⟨S2000, .f32⟩
  | 104 => ⟨S1, .f32⟩
  | 105 => ⟨S_, .f32⟩
  | 106 => ⟨S_, .f32⟩
  | 107 => ⟨S256, .f32⟩
  | 108 => ⟨S256, .f32⟩
  | 109 => ⟨S256, .f32⟩
  | 110 => ⟨S256, .f32⟩
  | 111 => ⟨S1x2000, .f32⟩
  | 112 => ⟨S256x1, .f32⟩
  | 113 => ⟨S256x2000, .f32⟩
  | 114 => ⟨S256x2000, .f32⟩
  | 115 => ⟨S256x2000, .i1⟩
  | 116 => ⟨S256x2000, .i32⟩
  | 117 => ⟨S_, .i32⟩
  | 118 => ⟨S256, .i32⟩
  | 119 => ⟨S_, .i32⟩
  | 120 => ⟨S256, .i32⟩
  | 121 => ⟨S256, .i1⟩
  | 122 => ⟨S_, .i32⟩
  | 123 => ⟨S256, .i32⟩
  | 124 => ⟨S256, .i32⟩
  | 125 => ⟨S256, .i32⟩
  | 126 => ⟨S256x1, .i32⟩
  | 127 => ⟨S256, .f32⟩
  | _ => ⟨S100000x6, .f32⟩

abbrev hbmTy0_2 (i : Nat) : BufTy := match i % 128 with
  | 0 => ⟨S1, .f32⟩
  | 1 => ⟨S_, .f32⟩
  | 2 => ⟨S1, .f32⟩
  | 3 => ⟨S_, .f32⟩
  | 4 => ⟨S1, .f32⟩
  | 5 => ⟨S_, .f32⟩
  | 6 => ⟨S_, .f32⟩
  | 7 => ⟨S256, .f32⟩
  | 8 => ⟨S256, .f32⟩
  | 9 => ⟨S1, .f32⟩
  | 10 => ⟨S_, .f32⟩
  | 11 => ⟨S256, .f32⟩
  | 12 => ⟨S256, .f32⟩
  | 13 => ⟨S256, .f32⟩
  | 14 => ⟨S256, .f32⟩
  | 15 => ⟨S1, .f32⟩
  | 16 => ⟨S_, .f32⟩
  | 17 => ⟨S1, .f32⟩
  | 18 => ⟨S_, .f32⟩
  | 19 => ⟨S_, .f32⟩
  | 20 => ⟨S_, .f32⟩
  | 21 => ⟨S_, .f32⟩
  | 22 => ⟨S_, .i1⟩
  | 23 => ⟨S256, .f32⟩
  | 24 => ⟨S_, .f32⟩
  | 25 => ⟨S256, .f32⟩
  | 26 => ⟨S256, .f32⟩
  | 27 => ⟨S_, .f32⟩
  | 28 => ⟨S256, .f32⟩
  | 29 => ⟨S256, .f32⟩
  | 30 => ⟨S_, .f32⟩
  | 31 => ⟨S256, .f32⟩
  | 32 => ⟨S256, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S9999, .f32⟩
  | 45 => ⟨S_, .f32⟩
  | 46 => ⟨S9999, .f32⟩
  | 47 => ⟨S9999, .f32⟩
  | 48 => ⟨S1, .f32⟩
  | 49 => ⟨S_, .f32⟩
  | 50 => ⟨S9999, .f32⟩
  | 51 => ⟨S9999, .f32⟩
  | 52 => ⟨S9999, .f32⟩
  | 53 => ⟨S9999, .f32⟩
  | 54 => ⟨S1, .f32⟩
  | 55 => ⟨S9999, .f32⟩
  | 56 => ⟨S9999, .f32⟩
  | 57 => ⟨S9999, .f32⟩
  | 58 => ⟨S1, .f32⟩
  | 59 => ⟨S10000, .f32⟩
  | 60 => ⟨S10000, .f32⟩
  | 61 => ⟨S_, .f32⟩
  | 62 => ⟨S10000, .f32⟩
  | 63 => ⟨S10000, .f32⟩
  | 64 => ⟨S10000, .f32⟩
  | 65 => ⟨S10000, .f32⟩
  | 66 => ⟨S_, .f32⟩
  | 67 => ⟨S10000, .f32⟩
  | 68 => ⟨S10000, .f32⟩
  | 69 => ⟨S10000, .f32⟩
  | 70 => ⟨S10000, .f32⟩
  | 71 => ⟨S_, .f32⟩
  | 72 => ⟨S_, .f32⟩
  | 73 => ⟨S10000, .f32⟩
  | 74 => ⟨S10000, .f32⟩
  | 75 => ⟨S_, .f32⟩
  | 76 => ⟨S_, .f32⟩
  | 77 => ⟨S10000, .f32⟩
  | 78 => ⟨S1, .f32⟩
  | 79 => ⟨S_, .f32⟩
  | 80 => ⟨S_, .f32⟩
  | 81 => ⟨S256, .f32⟩
  | 82 => ⟨S256, .f32⟩
  | 83 => ⟨S256, .f32⟩
  | 84 => ⟨S256, .f32⟩
  | 85 => ⟨S1x10000, .f32⟩
  | 86 => ⟨S256x1, .f32⟩
  | 87 => ⟨S256x10000, .f32⟩
  | 88 => ⟨S256x10000, .f32⟩
  | 89 => ⟨S256x10000, .i1⟩
  | 90 => ⟨S256x10000, .i32⟩
  | 91 => ⟨S_, .i32⟩
  | 92 => ⟨S256, .i32⟩
  | 93 => ⟨S_, .i32⟩
  | 94 => ⟨S256, .i32⟩
  | 95 => ⟨S256, .i1⟩
  | 96 => ⟨S_, .i32⟩
  | 97 => ⟨S256, .i32⟩
  | 98 => ⟨S256, .i32⟩
  | 99 => ⟨S256, .i32⟩
  | 100 => ⟨S256x1, .i32⟩
  | 101 => ⟨S256, .f32⟩
  | 102 => ⟨S_, .f32⟩
  | 103 => ⟨S256, .f32⟩
  | 104 => ⟨S256, .f32⟩
  | 105 => ⟨S_, .f32⟩
  | 106 => ⟨S256, .f32⟩
  | 107 => ⟨S256, .f32⟩
  | 108 => ⟨S1x100000, .f32⟩
  | 109 => ⟨S256x1, .f32⟩
  | 110 => ⟨S256x100000, .f32⟩
  | 111 => ⟨S256x100000, .f32⟩
  | 112 => ⟨S256x100000, .i1⟩
  | 113 => ⟨S1x100000, .f32⟩
  | 114 => ⟨S256x1, .f32⟩
  | 115 => ⟨S256x100000, .f32⟩
  | 116 => ⟨S256x100000, .f32⟩
  | 117 => ⟨S256x100000, .i1⟩
  | 118 => ⟨S256x100000, .i1⟩
  | 119 => ⟨S256x100000, .f32⟩
  | 120 => ⟨S_, .f32⟩
  | 121 => ⟨S256, .f32⟩
  | 122 => ⟨S_, .f32⟩
  | 123 => ⟨S256, .f32⟩
  | 124 => ⟨S256, .f32⟩
  | 125 => ⟨S256x6, .f32⟩
  | 126 => ⟨S256x1, .f32⟩
  | 127 => ⟨S256x6, .f32⟩
  | _ => ⟨S100000x6, .f32⟩

abbrev hbmTy0_3 (i : Nat) : BufTy := match i % 128 with
  | 0 => ⟨S256x6, .f32⟩
  | 1 => ⟨S1x100000, .f32⟩
  | 2 => ⟨S256x100000, .f32⟩
  | 3 => ⟨S256x100000, .f32⟩
  | 4 => ⟨S_, .f32⟩
  | 5 => ⟨S256, .f32⟩
  | 6 => ⟨S256, .f32⟩
  | 7 => ⟨S256x1, .f32⟩
  | 8 => ⟨S256x1, .f32⟩
  | 9 => ⟨S256x1, .f32⟩
  | 10 => ⟨S256x1, .f32⟩
  | 11 => ⟨S256x1, .f32⟩
  | 12 => ⟨S256x1, .f32⟩
  | 13 => ⟨S256x12, .f32⟩
  | _ => ⟨S100000x6, .f32⟩

abbrev hbmTy (i : Nat) : BufTy := match i / 128 with
  | 0 => hbmTy0_0 i
  | 1 => hbmTy0_1 i
  | 2 => hbmTy0_2 i
  | 3 => hbmTy0_3 i
  | _ => ⟨S100000x6, .f32⟩

abbrev bufTy : (tb : Table) → Fin (tcTables nBuf tb) → BufTy
  | .hbm, ⟨i, _⟩ => hbmTy i
  | _, _ => ⟨S100000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_call0_call0_cst : Ref sig .tc := ⟨.hbm, 24, rfl⟩
abbrev main_call0_call0_v0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c : Ref sig .tc := ⟨.hbm, 37, rfl⟩
abbrev main_v20 : Ref sig .tc := ⟨.hbm, 38, rfl⟩
abbrev main_c_2 : Ref sig .tc := ⟨.hbm, 39, rfl⟩
abbrev main_c_3 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_v21 : Ref sig .tc := ⟨.hbm, 46, rfl⟩
abbrev main_c_4 : Ref sig .tc := ⟨.hbm, 47, rfl⟩
abbrev main_v22 : Ref sig .tc := ⟨.hbm, 48, rfl⟩
abbrev main_v23 : Ref sig .tc := ⟨.hbm, 49, rfl⟩
abbrev main_c_5 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_c_6 : Ref sig .tc := ⟨.hbm, 56, rfl⟩
abbrev main_v29 : Ref sig .tc := ⟨.hbm, 57, rfl⟩
abbrev main_v30 : Ref sig .tc := ⟨.hbm, 58, rfl⟩
abbrev main_c_7 : Ref sig .tc := ⟨.hbm, 59, rfl⟩
abbrev main_v31 : Ref sig .tc := ⟨.hbm, 60, rfl⟩
abbrev main_v32 : Ref sig .tc := ⟨.hbm, 61, rfl⟩
abbrev main_c_8 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_c_9 : Ref sig .tc := ⟨.hbm, 69, rfl⟩
abbrev main_v39 : Ref sig .tc := ⟨.hbm, 70, rfl⟩
abbrev main_v40 : Ref sig .tc := ⟨.hbm, 71, rfl⟩
abbrev main_c_10 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_c_11 : Ref sig .tc := ⟨.hbm, 78, rfl⟩
abbrev main_v46 : Ref sig .tc := ⟨.hbm, 79, rfl⟩
abbrev main_v47 : Ref sig .tc := ⟨.hbm, 80, rfl⟩
abbrev main_c_12 : Ref sig .tc := ⟨.hbm, 81, rfl⟩
abbrev main_v48 : Ref sig .tc := ⟨.hbm, 82, rfl⟩
abbrev main_v49 : Ref sig .tc := ⟨.hbm, 83, rfl⟩
abbrev main_c_13 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_c_14 : Ref sig .tc := ⟨.hbm, 91, rfl⟩
abbrev main_v56 : Ref sig .tc := ⟨.hbm, 92, rfl⟩
abbrev main_v57 : Ref sig .tc := ⟨.hbm, 93, rfl⟩
abbrev main_c_15 : Ref sig .tc := ⟨.hbm, 94, rfl⟩
abbrev main_v58 : Ref sig .tc := ⟨.hbm, 95, rfl⟩
abbrev main_v59 : Ref sig .tc := ⟨.hbm, 96, rfl⟩
abbrev main_c_16 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_cst_17 : Ref sig .tc := ⟨.hbm, 105, rfl⟩
abbrev main_v67 : Ref sig .tc := ⟨.hbm, 106, rfl⟩
abbrev main_v68 : Ref sig .tc := ⟨.hbm, 107, rfl⟩
abbrev main_c_18 : Ref sig .tc := ⟨.hbm, 108, rfl⟩
abbrev main_v69 : Ref sig .tc := ⟨.hbm, 109, rfl⟩
abbrev main_v70 : Ref sig .tc := ⟨.hbm, 110, rfl⟩
abbrev main_c_19 : Ref sig .tc := ⟨.hbm, 111, rfl⟩
abbrev main_v71 : Ref sig .tc := ⟨.hbm, 112, rfl⟩
abbrev main_v72 : Ref sig .tc := ⟨.hbm, 113, rfl⟩
abbrev main_c_20 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_c_21 : Ref sig .tc := ⟨.hbm, 120, rfl⟩
abbrev main_v78 : Ref sig .tc := ⟨.hbm, 121, rfl⟩
abbrev main_v79 : Ref sig .tc := ⟨.hbm, 122, rfl⟩
abbrev main_c_22 : Ref sig .tc := ⟨.hbm, 123, rfl⟩
abbrev main_v80 : Ref sig .tc := ⟨.hbm, 124, rfl⟩
abbrev main_v81 : Ref sig .tc := ⟨.hbm, 125, rfl⟩
abbrev main_c_23 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_cst_24 : Ref sig .tc := ⟨.hbm, 132, rfl⟩
abbrev main_call2_v0 : Ref sig .tc := ⟨.hbm, 133, rfl⟩
abbrev main_call2_v1 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_call4_v0 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_call5_v0 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_call6_v0 : Ref sig .tc := ⟨.hbm, 160, rfl⟩
abbrev main_call6_cst : Ref sig .tc := ⟨.hbm, 161, rfl⟩
abbrev main_call6_v1 : Ref sig .tc := ⟨.hbm, 162, rfl⟩
abbrev main_call6_v2 : Ref sig .tc := ⟨.hbm, 163, rfl⟩
abbrev main_call6_cst_0 : Ref sig .tc := ⟨.hbm, 164, rfl⟩
abbrev main_call6_v3 : Ref sig .tc := ⟨.hbm, 165, rfl⟩
abbrev main_call6_v4 : Ref sig .tc := ⟨.hbm, 166, rfl⟩
abbrev main_call6_v5 : Ref sig .tc := ⟨.hbm, 167, rfl⟩
abbrev main_call6_cst_1 : Ref sig .tc := ⟨.hbm, 168, rfl⟩
abbrev main_call6_v6 : Ref sig .tc := ⟨.hbm, 169, rfl⟩
abbrev main_call6_v7 : Ref sig .tc := ⟨.hbm, 170, rfl⟩
abbrev main_call6_v8 : Ref sig .tc := ⟨.hbm, 171, rfl⟩
abbrev main_call6_v9 : Ref sig .tc := ⟨.hbm, 172, rfl⟩
abbrev main_call6_v10 : Ref sig .tc := ⟨.hbm, 173, rfl⟩
abbrev main_call6_v11 : Ref sig .tc := ⟨.hbm, 174, rfl⟩
abbrev main_call6_v12 : Ref sig .tc := ⟨.hbm, 175, rfl⟩
abbrev main_call6_v13 : Ref sig .tc := ⟨.hbm, 176, rfl⟩
abbrev main_call6_v14 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_call7_v0 : Ref sig .tc := ⟨.hbm, 183, rfl⟩
abbrev main_call7_cst : Ref sig .tc := ⟨.hbm, 184, rfl⟩
abbrev main_call7_v1 : Ref sig .tc := ⟨.hbm, 185, rfl⟩
abbrev main_call7_v2 : Ref sig .tc := ⟨.hbm, 186, rfl⟩
abbrev main_call7_cst_0 : Ref sig .tc := ⟨.hbm, 187, rfl⟩
abbrev main_call7_v3 : Ref sig .tc := ⟨.hbm, 188, rfl⟩
abbrev main_call7_v4 : Ref sig .tc := ⟨.hbm, 189, rfl⟩
abbrev main_call7_v5 : Ref sig .tc := ⟨.hbm, 190, rfl⟩
abbrev main_call7_cst_1 : Ref sig .tc := ⟨.hbm, 191, rfl⟩
abbrev main_call7_v6 : Ref sig .tc := ⟨.hbm, 192, rfl⟩
abbrev main_call7_v7 : Ref sig .tc := ⟨.hbm, 193, rfl⟩
abbrev main_call7_v8 : Ref sig .tc := ⟨.hbm, 194, rfl⟩
abbrev main_call7_v9 : Ref sig .tc := ⟨.hbm, 195, rfl⟩
abbrev main_call7_v10 : Ref sig .tc := ⟨.hbm, 196, rfl⟩
abbrev main_call7_v11 : Ref sig .tc := ⟨.hbm, 197, rfl⟩
abbrev main_call7_v12 : Ref sig .tc := ⟨.hbm, 198, rfl⟩
abbrev main_call7_v13 : Ref sig .tc := ⟨.hbm, 199, rfl⟩
abbrev main_call7_v14 : Ref sig .tc := ⟨.hbm, 200, rfl⟩
abbrev main_v115 : Ref sig .tc := ⟨.hbm, 201, rfl⟩
abbrev main_v118 : Ref sig .tc := ⟨.hbm, 202, rfl⟩
abbrev main_v119 : Ref sig .tc := ⟨.hbm, 203, rfl⟩
abbrev main_v120 : Ref sig .tc := ⟨.hbm, 204, rfl⟩
abbrev main_v121 : Ref sig .tc := ⟨.hbm, 205, rfl⟩
abbrev main_v122 : Ref sig .tc := ⟨.hbm, 206, rfl⟩
abbrev main_v123 : Ref sig .tc := ⟨.hbm, 207, rfl⟩
abbrev main_v124 : Ref sig .tc := ⟨.hbm, 208, rfl⟩
abbrev main_v125 : Ref sig .tc := ⟨.hbm, 209, rfl⟩
abbrev main_v126 : Ref sig .tc := ⟨.hbm, 210, rfl⟩
abbrev main_v127 : Ref sig .tc := ⟨.hbm, 211, rfl⟩
abbrev main_v128 : Ref sig .tc := ⟨.hbm, 212, rfl⟩
abbrev main_v129 : Ref sig .tc := ⟨.hbm, 213, rfl⟩
abbrev main_v130 : Ref sig .tc := ⟨.hbm, 214, rfl⟩
abbrev main_cst_25 : Ref sig .tc := ⟨.hbm, 215, rfl⟩
abbrev main_v131 : Ref sig .tc := ⟨.hbm, 216, rfl⟩
abbrev main_v132 : Ref sig .tc := ⟨.hbm, 217, rfl⟩
abbrev main_cst_26 : Ref sig .tc := ⟨.hbm, 218, rfl⟩
abbrev main_v133 : Ref sig .tc := ⟨.hbm, 219, rfl⟩
abbrev main_cst_27 : Ref sig .tc := ⟨.hbm, 220, rfl⟩
abbrev main_v134 : Ref sig .tc := ⟨.hbm, 221, rfl⟩
abbrev main_v135 : Ref sig .tc := ⟨.hbm, 222, rfl⟩
abbrev main_v136 : Ref sig .tc := ⟨.hbm, 223, rfl⟩
abbrev main_cst_28 : Ref sig .tc := ⟨.hbm, 224, rfl⟩
abbrev main_v137 : Ref sig .tc := ⟨.hbm, 225, rfl⟩
abbrev main_v138 : Ref sig .tc := ⟨.hbm, 226, rfl⟩
abbrev main_v139 : Ref sig .tc := ⟨.hbm, 227, rfl⟩
abbrev main_v142 : Ref sig .tc := ⟨.hbm, 228, rfl⟩
abbrev main_call12_call0_cst : Ref sig .tc := ⟨.hbm, 229, rfl⟩
abbrev main_call12_call0_v0 : Ref sig .tc := ⟨.hbm, 230, rfl⟩
abbrev main_v143 : Ref sig .tc := ⟨.hbm, 231, rfl⟩
abbrev main_v144 : Ref sig .tc := ⟨.hbm, 232, rfl⟩
abbrev main_v145 : Ref sig .tc := ⟨.hbm, 233, rfl⟩
abbrev main_cst_29 : Ref sig .tc := ⟨.hbm, 234, rfl⟩
abbrev main_v146 : Ref sig .tc := ⟨.hbm, 235, rfl⟩
abbrev main_v147 : Ref sig .tc := ⟨.hbm, 236, rfl⟩
abbrev main_v148 : Ref sig .tc := ⟨.hbm, 237, rfl⟩
abbrev main_v149 : Ref sig .tc := ⟨.hbm, 238, rfl⟩
abbrev main_v150 : Ref sig .tc := ⟨.hbm, 239, rfl⟩
abbrev main_v151 : Ref sig .tc := ⟨.hbm, 240, rfl⟩
abbrev main_v152 : Ref sig .tc := ⟨.hbm, 241, rfl⟩
abbrev main_v153 : Ref sig .tc := ⟨.hbm, 242, rfl⟩
abbrev main_v154 : Ref sig .tc := ⟨.hbm, 243, rfl⟩
abbrev main_v155 : Ref sig .tc := ⟨.hbm, 244, rfl⟩
abbrev main_c_30 : Ref sig .tc := ⟨.hbm, 245, rfl⟩
abbrev main_v156 : Ref sig .tc := ⟨.hbm, 246, rfl⟩
abbrev main_c_31 : Ref sig .tc := ⟨.hbm, 247, rfl⟩
abbrev main_v157 : Ref sig .tc := ⟨.hbm, 248, rfl⟩
abbrev main_v158 : Ref sig .tc := ⟨.hbm, 249, rfl⟩
abbrev main_c_32 : Ref sig .tc := ⟨.hbm, 250, rfl⟩
abbrev main_v159 : Ref sig .tc := ⟨.hbm, 251, rfl⟩
abbrev main_v160 : Ref sig .tc := ⟨.hbm, 252, rfl⟩
abbrev main_v161 : Ref sig .tc := ⟨.hbm, 253, rfl⟩
abbrev main_v162 : Ref sig .tc := ⟨.hbm, 254, rfl⟩
abbrev main_v163 : Ref sig .tc := ⟨.hbm, 255, rfl⟩
abbrev main_v164 : Ref sig .tc := ⟨.hbm, 256, rfl⟩
abbrev main_v165 : Ref sig .tc := ⟨.hbm, 257, rfl⟩
abbrev main_v166 : Ref sig .tc := ⟨.hbm, 258, rfl⟩
abbrev main_v167 : Ref sig .tc := ⟨.hbm, 259, rfl⟩
abbrev main_v168 : Ref sig .tc := ⟨.hbm, 260, rfl⟩
abbrev main_v169 : Ref sig .tc := ⟨.hbm, 261, rfl⟩
abbrev main_v170 : Ref sig .tc := ⟨.hbm, 262, rfl⟩
abbrev main_v171 : Ref sig .tc := ⟨.hbm, 263, rfl⟩
abbrev main_v172 : Ref sig .tc := ⟨.hbm, 264, rfl⟩
abbrev main_v173 : Ref sig .tc := ⟨.hbm, 265, rfl⟩
abbrev main_v174 : Ref sig .tc := ⟨.hbm, 266, rfl⟩
abbrev main_v175 : Ref sig .tc := ⟨.hbm, 267, rfl⟩
abbrev main_v176 : Ref sig .tc := ⟨.hbm, 268, rfl⟩
abbrev main_v177 : Ref sig .tc := ⟨.hbm, 269, rfl⟩
abbrev main_v178 : Ref sig .tc := ⟨.hbm, 270, rfl⟩
abbrev main_v179 : Ref sig .tc := ⟨.hbm, 271, rfl⟩
abbrev main_v180 : Ref sig .tc := ⟨.hbm, 272, rfl⟩
abbrev main_v181 : Ref sig .tc := ⟨.hbm, 273, rfl⟩
abbrev main_v182 : Ref sig .tc := ⟨.hbm, 274, rfl⟩
abbrev main_v183 : Ref sig .tc := ⟨.hbm, 275, rfl⟩
abbrev main_v184 : Ref sig .tc := ⟨.hbm, 276, rfl⟩
abbrev main_cst_33 : Ref sig .tc := ⟨.hbm, 277, rfl⟩
abbrev main_v185 : Ref sig .tc := ⟨.hbm, 278, rfl⟩
abbrev main_v186 : Ref sig .tc := ⟨.hbm, 279, rfl⟩
abbrev main_cst_34 : Ref sig .tc := ⟨.hbm, 280, rfl⟩
abbrev main_v187 : Ref sig .tc := ⟨.hbm, 281, rfl⟩
abbrev main_v188 : Ref sig .tc := ⟨.hbm, 282, rfl⟩
abbrev main_cst_35 : Ref sig .tc := ⟨.hbm, 283, rfl⟩
abbrev main_v189 : Ref sig .tc := ⟨.hbm, 284, rfl⟩
abbrev main_v190 : Ref sig .tc := ⟨.hbm, 285, rfl⟩
abbrev main_cst_36 : Ref sig .tc := ⟨.hbm, 286, rfl⟩
abbrev main_v191 : Ref sig .tc := ⟨.hbm, 287, rfl⟩
abbrev main_v192 : Ref sig .tc := ⟨.hbm, 288, rfl⟩
abbrev main_cst_37 : Ref sig .tc := ⟨.hbm, 289, rfl⟩
abbrev main_v193 : Ref sig .tc := ⟨.hbm, 290, rfl⟩
abbrev main_cst_38 : Ref sig .tc := ⟨.hbm, 291, rfl⟩
abbrev main_v194 : Ref sig .tc := ⟨.hbm, 292, rfl⟩
abbrev main_cst_39 : Ref sig .tc := ⟨.hbm, 293, rfl⟩
abbrev main_cst_40 : Ref sig .tc := ⟨.hbm, 294, rfl⟩
abbrev main_call14_v0 : Ref sig .tc := ⟨.hbm, 295, rfl⟩
abbrev main_call14_v1 : Ref sig .tc := ⟨.hbm, 296, rfl⟩
abbrev main_call14_v2 : Ref sig .tc := ⟨.hbm, 297, rfl⟩
abbrev main_call14_cst : Ref sig .tc := ⟨.hbm, 298, rfl⟩
abbrev main_call14_v3 : Ref sig .tc := ⟨.hbm, 299, rfl⟩
abbrev main_call14_v4 : Ref sig .tc := ⟨.hbm, 300, rfl⟩
abbrev main_call14_cst_0 : Ref sig .tc := ⟨.hbm, 301, rfl⟩
abbrev main_call14_v5 : Ref sig .tc := ⟨.hbm, 302, rfl⟩
abbrev main_call14_v6 : Ref sig .tc := ⟨.hbm, 303, rfl⟩
abbrev main_call14_v7 : Ref sig .tc := ⟨.hbm, 304, rfl⟩
abbrev main_call14_cst_1 : Ref sig .tc := ⟨.hbm, 305, rfl⟩
abbrev main_call14_v8 : Ref sig .tc := ⟨.hbm, 306, rfl⟩
abbrev main_call14_v9 : Ref sig .tc := ⟨.hbm, 307, rfl⟩
abbrev main_call14_v10 : Ref sig .tc := ⟨.hbm, 308, rfl⟩
abbrev main_call14_v11 : Ref sig .tc := ⟨.hbm, 309, rfl⟩
abbrev main_call14_v12 : Ref sig .tc := ⟨.hbm, 310, rfl⟩
abbrev main_call14_v13 : Ref sig .tc := ⟨.hbm, 311, rfl⟩
abbrev main_call14_v14 : Ref sig .tc := ⟨.hbm, 312, rfl⟩
abbrev main_call14_v15 : Ref sig .tc := ⟨.hbm, 313, rfl⟩
abbrev main_call14_v16 : Ref sig .tc := ⟨.hbm, 314, rfl⟩
abbrev main_v195 : Ref sig .tc := ⟨.hbm, 315, rfl⟩
abbrev main_v196 : Ref sig .tc := ⟨.hbm, 316, rfl⟩
abbrev main_v197 : Ref sig .tc := ⟨.hbm, 317, rfl⟩
abbrev main_v198 : Ref sig .tc := ⟨.hbm, 318, rfl⟩
abbrev main_v199 : Ref sig .tc := ⟨.hbm, 319, rfl⟩
abbrev main_v200 : Ref sig .tc := ⟨.hbm, 320, rfl⟩
abbrev main_v201 : Ref sig .tc := ⟨.hbm, 321, rfl⟩
abbrev main_cst_41 : Ref sig .tc := ⟨.hbm, 322, rfl⟩
abbrev main_v202 : Ref sig .tc := ⟨.hbm, 323, rfl⟩
abbrev main_v203 : Ref sig .tc := ⟨.hbm, 324, rfl⟩
abbrev main_v204 : Ref sig .tc := ⟨.hbm, 325, rfl⟩
abbrev main_v205 : Ref sig .tc := ⟨.hbm, 326, rfl⟩
abbrev main_cst_42 : Ref sig .tc := ⟨.hbm, 327, rfl⟩
abbrev main_v206 : Ref sig .tc := ⟨.hbm, 328, rfl⟩
abbrev main_v207 : Ref sig .tc := ⟨.hbm, 329, rfl⟩
abbrev main_v208 : Ref sig .tc := ⟨.hbm, 330, rfl⟩
abbrev main_call15_call0_cst : Ref sig .tc := ⟨.hbm, 331, rfl⟩
abbrev main_call15_call0_v0 : Ref sig .tc := ⟨.hbm, 332, rfl⟩
abbrev main_v209 : Ref sig .tc := ⟨.hbm, 333, rfl⟩
abbrev main_v210 : Ref sig .tc := ⟨.hbm, 334, rfl⟩
abbrev main_v211 : Ref sig .tc := ⟨.hbm, 335, rfl⟩
abbrev main_cst_43 : Ref sig .tc := ⟨.hbm, 336, rfl⟩
abbrev main_v212 : Ref sig .tc := ⟨.hbm, 337, rfl⟩
abbrev main_v213 : Ref sig .tc := ⟨.hbm, 338, rfl⟩
abbrev main_v214 : Ref sig .tc := ⟨.hbm, 339, rfl⟩
abbrev main_v215 : Ref sig .tc := ⟨.hbm, 340, rfl⟩
abbrev main_v216 : Ref sig .tc := ⟨.hbm, 341, rfl⟩
abbrev main_v217 : Ref sig .tc := ⟨.hbm, 342, rfl⟩
abbrev main_v218 : Ref sig .tc := ⟨.hbm, 343, rfl⟩
abbrev main_v219 : Ref sig .tc := ⟨.hbm, 344, rfl⟩
abbrev main_v220 : Ref sig .tc := ⟨.hbm, 345, rfl⟩
abbrev main_v221 : Ref sig .tc := ⟨.hbm, 346, rfl⟩
abbrev main_c_44 : Ref sig .tc := ⟨.hbm, 347, rfl⟩
abbrev main_v222 : Ref sig .tc := ⟨.hbm, 348, rfl⟩
abbrev main_c_45 : Ref sig .tc := ⟨.hbm, 349, rfl⟩
abbrev main_v223 : Ref sig .tc := ⟨.hbm, 350, rfl⟩
abbrev main_v224 : Ref sig .tc := ⟨.hbm, 351, rfl⟩
abbrev main_c_46 : Ref sig .tc := ⟨.hbm, 352, rfl⟩
abbrev main_v225 : Ref sig .tc := ⟨.hbm, 353, rfl⟩
abbrev main_v226 : Ref sig .tc := ⟨.hbm, 354, rfl⟩
abbrev main_v227 : Ref sig .tc := ⟨.hbm, 355, rfl⟩
abbrev main_v228 : Ref sig .tc := ⟨.hbm, 356, rfl⟩
abbrev main_v229 : Ref sig .tc := ⟨.hbm, 357, rfl⟩
abbrev main_cst_47 : Ref sig .tc := ⟨.hbm, 358, rfl⟩
abbrev main_v230 : Ref sig .tc := ⟨.hbm, 359, rfl⟩
abbrev main_v231 : Ref sig .tc := ⟨.hbm, 360, rfl⟩
abbrev main_cst_48 : Ref sig .tc := ⟨.hbm, 361, rfl⟩
abbrev main_v232 : Ref sig .tc := ⟨.hbm, 362, rfl⟩
abbrev main_v233 : Ref sig .tc := ⟨.hbm, 363, rfl⟩
abbrev main_v234 : Ref sig .tc := ⟨.hbm, 364, rfl⟩
abbrev main_v235 : Ref sig .tc := ⟨.hbm, 365, rfl⟩
abbrev main_v236 : Ref sig .tc := ⟨.hbm, 366, rfl⟩
abbrev main_v237 : Ref sig .tc := ⟨.hbm, 367, rfl⟩
abbrev main_v238 : Ref sig .tc := ⟨.hbm, 368, rfl⟩
abbrev main_v239 : Ref sig .tc := ⟨.hbm, 369, rfl⟩
abbrev main_v240 : Ref sig .tc := ⟨.hbm, 370, rfl⟩
abbrev main_v241 : Ref sig .tc := ⟨.hbm, 371, rfl⟩
abbrev main_v242 : Ref sig .tc := ⟨.hbm, 372, rfl⟩
abbrev main_v243 : Ref sig .tc := ⟨.hbm, 373, rfl⟩
abbrev main_v244 : Ref sig .tc := ⟨.hbm, 374, rfl⟩
abbrev main_v245 : Ref sig .tc := ⟨.hbm, 375, rfl⟩
abbrev main_cst_49 : Ref sig .tc := ⟨.hbm, 376, rfl⟩
abbrev main_v246 : Ref sig .tc := ⟨.hbm, 377, rfl⟩
abbrev main_cst_50 : Ref sig .tc := ⟨.hbm, 378, rfl⟩
abbrev main_v247 : Ref sig .tc := ⟨.hbm, 379, rfl⟩
abbrev main_v248 : Ref sig .tc := ⟨.hbm, 380, rfl⟩
abbrev main_v249 : Ref sig .tc := ⟨.hbm, 381, rfl⟩
abbrev main_v250 : Ref sig .tc := ⟨.hbm, 382, rfl⟩
abbrev main_v251 : Ref sig .tc := ⟨.hbm, 383, rfl⟩
abbrev main_v252 : Ref sig .tc := ⟨.hbm, 384, rfl⟩
abbrev main_v253 : Ref sig .tc := ⟨.hbm, 385, rfl⟩
abbrev main_v254 : Ref sig .tc := ⟨.hbm, 386, rfl⟩
abbrev main_v255 : Ref sig .tc := ⟨.hbm, 387, rfl⟩
abbrev main_cst_51 : Ref sig .tc := ⟨.hbm, 388, rfl⟩
abbrev main_v256 : Ref sig .tc := ⟨.hbm, 389, rfl⟩
abbrev main_v257 : Ref sig .tc := ⟨.hbm, 390, rfl⟩
abbrev main_v258 : Ref sig .tc := ⟨.hbm, 391, rfl⟩
abbrev main_v259 : Ref sig .tc := ⟨.hbm, 392, rfl⟩
abbrev main_v260 : Ref sig .tc := ⟨.hbm, 393, rfl⟩
abbrev main_v261 : Ref sig .tc := ⟨.hbm, 394, rfl⟩
abbrev main_v262 : Ref sig .tc := ⟨.hbm, 395, rfl⟩
abbrev main_v263 : Ref sig .tc := ⟨.hbm, 396, rfl⟩
abbrev main_v264 : Ref sig .tc := ⟨.hbm, 397, rfl⟩

abbrev nD : Nat := 1
abbrev τ : Topo := Topo.v7x

variable {F : FTy → Type} [FloatOps F]
-- ==== Proof.Grid.lean ====
module

public import Idealize.ShloMosaic.Lib.Pointwise
public import Idealize.ShloMosaic.Lib.IdealHost

@[expose] public section
set_option maxRecDepth 16384
noncomputable section

/-! Arithmetic on grids of `R` rows of 128: one-hot selection of the entry of a flat index, and counting a
    downward closed property of flat indices by rows first and then inside one row. -/

namespace Cert.Grid
open Idealize.ShloMosaic

/-- One where `p` holds, zero elsewhere. -/
def tic (p : Prop) : EReal := open Classical in if p then 1 else 0

/-- How many indices satisfy the property. -/
def count {ι : Type} [Fintype ι] (p : ι → Prop) : ℕ := open Classical in (Finset.univ.filter p).card

/-- The mark of what holds is 1. -/
theorem tic_pos {p : Prop} (h : p) : tic p = 1 := by classical exact if_pos h
/-- The mark of what does not hold is 0. -/
theorem tic_neg {p : Prop} (h : ¬ p) : tic p = 0 := by classical exact if_neg h

/-- A truth value widened to an integer and converted to a float is its indicator. -/
theorem sitofp_ofBool (b : Bool) :
    FloatOps.sitofp (F := Ideal) .f32 (BitVec.setWidth 32 (BitVec.ofBool b)) = tic (b = true) := by
  cases b <;> simp [tic, FloatOps.sitofp]

/-- The same of a decided proposition. -/
theorem sitofp_decide (p : Prop) [Decidable p] :
    FloatOps.sitofp (F := Ideal) .f32 (BitVec.setWidth 32 (BitVec.ofBool (decide p))) = tic p := by
  rw [sitofp_ofBool]; simp [tic]

/-- An integer comparison for equality, converted to a float. -/
theorem sitofp_eq (a b : BitVec 32) :
    FloatOps.sitofp (F := Ideal) .f32 (BitVec.setWidth 32 (IntOp.cmpi .eq a b)) = tic (a = b) := by
  rw [show IntOp.cmpi .eq a b = BitVec.ofBool (decide (a = b)) from by simp [IntOp.cmpi]; rfl, sitofp_decide]

/-- A signed comparison of two small naturals, converted to a float. -/
theorem sitofp_sle (a b : ℕ) (ha : a < 2 ^ 31) (hb : b < 2 ^ 31) :
    FloatOps.sitofp (F := Ideal) .f32 (BitVec.setWidth 32 (IntOp.cmpi .sle (BitVec.ofNat 32 a) (BitVec.ofNat 32 b)))
      = tic (a ≤ b) := by
  rw [show IntOp.cmpi .sle (BitVec.ofNat 32 a) (BitVec.ofNat 32 b) = BitVec.ofBool (decide (a ≤ b)) from ?_, sitofp_decide]
  have e : ∀ c : ℕ, c < 2 ^ 31 → (BitVec.ofNat 32 c).toInt = (c : ℤ) := fun c hc => by
    rw [BitVec.toInt_eq_toNat_of_lt] <;> simp only [BitVec.toNat_ofNat] <;> omega
  simp [IntOp.cmpi, BitVec.sle, e a ha, e b hb]

/-- A signed comparison of two small naturals, converted to a float. -/
theorem sitofp_slt (a b : ℕ) (ha : a < 2 ^ 31) (hb : b < 2 ^ 31) :
    FloatOps.sitofp (F := Ideal) .f32 (BitVec.setWidth 32 (IntOp.cmpi .slt (BitVec.ofNat 32 a) (BitVec.ofNat 32 b)))
      = tic (a < b) := by
  rw [show IntOp.cmpi .slt (BitVec.ofNat 32 a) (BitVec.ofNat 32 b) = BitVec.ofBool (decide (a < b)) from ?_, sitofp_decide]
  have e : ∀ c : ℕ, c < 2 ^ 31 → (BitVec.ofNat 32 c).toInt = (c : ℤ) := fun c hc => by
    rw [BitVec.toInt_eq_toNat_of_lt] <;> simp only [BitVec.toNat_ofNat] <;> omega
  simp [IntOp.cmpi, BitVec.slt, e a ha, e b hb]

/-- A sum of indicators is the number of the indices that satisfy the property. -/
theorem sum_tic {ι : Type} [Fintype ι] (p : ι → Prop) : ∑ i, tic (p i) = (count p : EReal) := by
  simp [tic, count, Finset.sum_boole]

/-- A sum against the indicator of one index is the term of that index. -/
theorem sum_tic_mul {n : ℕ} (a : ℕ) (ha : a < n) (h31 : n ≤ 2 ^ 31) (b : BitVec 32) (hb : b = BitVec.ofNat 32 a)
    (g : Fin n → EReal) : ∑ x : Fin n, tic (BitVec.ofNat 32 x.val = b) * g x = g ⟨a, ha⟩ := by
  subst hb
  rw [Finset.sum_eq_single ⟨a, ha⟩]
  · simp [tic]
  · intro x _ hx
    have : ¬ BitVec.ofNat 32 x.val = BitVec.ofNat 32 a := by
      intro h
      have := congrArg BitVec.toNat h
      simp only [BitVec.toNat_ofNat] at this
      have hx' := x.isLt
      exact hx (Fin.ext (by simpa using (by omega : x.val = a)))
    simp [tic, this]
  · simp

/-- The float 1/128. -/
theorem ofBits_128th : Ideal.ofBits .f32 1006632960#32 = (((1 : ℝ) / 128 : ℝ) : EReal) := by
  simp [Ideal.ofBits, Ideal.ieee, -EReal.coe_mul]; norm_num

/-- The float 128. -/
theorem ofBits_128 : Ideal.ofBits .f32 1124073472#32 = ((128 : ℕ) : EReal) := by
  rw [show ((128 : ℕ) : EReal) = ((128 : ℝ) : EReal) by norm_cast]
  simp [Ideal.ofBits, Ideal.ieee, -EReal.coe_mul]; norm_num

/-- A natural number converted to an integer. -/
theorem fptosi_nat (n : ℕ) (hn : n < 2 ^ 31) : Ideal.fptosi 32 (n : EReal) = BitVec.ofNat 32 n := by
  rw [show (n : EReal) = ((n : ℝ) : EReal) by norm_cast]
  show BitVec.ofInt 32 (max (-((2 ^ (32 - 1) : ℕ) : Int)) (min (((2 ^ (32 - 1) : ℕ) : Int) - 1)
    (if 0 ≤ (n : ℝ) then ⌊(n : ℝ)⌋ else ⌈(n : ℝ)⌉))) = _
  rw [if_pos (by positivity), Int.floor_natCast]
  have : max (-((2 ^ (32 - 1) : ℕ) : Int)) (min (((2 ^ (32 - 1) : ℕ) : Int) - 1) (n : Int)) = n := by
    norm_num; omega
  rw [this]; simp

/-- The row of a flat index. -/
theorem floor_row (n : ℕ) : Ideal.liftRound Int.floor ((n : EReal) * Ideal.ofBits .f32 1006632960#32) = ((n / 128 : ℕ) : EReal) := by
  rw [ofBits_128th, show (n : EReal) = ((n : ℝ) : EReal) by norm_cast, ← EReal.coe_mul]
  show ((⌊(n : ℝ) * (1 / 128)⌋ : ℝ) : EReal) = _
  rw [show ⌊(n : ℝ) * (1 / 128)⌋ = ((n / 128 : ℕ) : ℤ) by
    rw [mul_one_div, Int.floor_eq_iff]
    have h1 := Nat.div_add_mod n 128
    have h2 : ((128 * (n / 128) + n % 128 : ℕ) : ℝ) = n := by rw [h1]
    have h3 : ((n % 128 : ℕ) : ℝ) < 128 := by exact_mod_cast Nat.mod_lt n (by norm_num)
    have h4 : (0 : ℝ) ≤ ((n % 128 : ℕ) : ℝ) := Nat.cast_nonneg _
    have h5 : ((128 * (n / 128) + n % 128 : ℕ) : ℝ) = 128 * ((n / 128 : ℕ) : ℝ) + ((n % 128 : ℕ) : ℝ) := by push_cast; ring
    rw [h5] at h2
    rw [Int.cast_natCast]
    constructor <;> linarith]
  norm_cast

/-- The column of a flat index. -/
theorem col_of (n : ℕ) : (n : EReal) - ((n / 128 : ℕ) : EReal) * Ideal.ofBits .f32 1124073472#32 = ((n % 128 : ℕ) : EReal) := by
  rw [ofBits_128]
  have h : (n : ℝ) - ((n / 128 : ℕ) : ℝ) * ((128 : ℕ) : ℝ) = ((n % 128 : ℕ) : ℝ) := by
    have := Nat.div_add_mod n 128
    have h2 : ((128 * (n / 128) + n % 128 : ℕ) : ℝ) = n := by rw [this]
    push_cast at h2 ⊢; linarith
  have h' := congrArg (fun r : ℝ => (r : EReal)) h
  rw [← EReal.coe_natCast, ← EReal.coe_natCast, ← EReal.coe_natCast, ← EReal.coe_natCast, ← EReal.coe_mul, ← EReal.coe_sub]
  exact h'

/-- The entry that the two one-hot products select. -/
def pick {R : ℕ} (g : Fin R → Fin 128 → EReal) (w : EReal) : EReal :=
  ∑ x : Fin 128, (∑ y : Fin R, tic (BitVec.ofNat 32 y.val
      = Ideal.fptosi 32 (Ideal.liftRound Int.floor (w * Ideal.ofBits .f32 1006632960#32))) * g y x)
    * tic (BitVec.ofNat 32 x.val = Ideal.fptosi 32
        (w - Ideal.liftRound Int.floor (w * Ideal.ofBits .f32 1006632960#32) * Ideal.ofBits .f32 1124073472#32))

/-- At a flat index inside the grid it is that index's entry. -/
theorem pick_nat {R : ℕ} (hR : R ≤ 1000) (g : Fin R → Fin 128 → EReal) (n : ℕ) (hn : n < 128 * R) :
    pick g (n : EReal) = g ⟨n / 128, by omega⟩ ⟨n % 128, Nat.mod_lt _ (by norm_num)⟩ := by
  unfold pick
  rw [floor_row, col_of, fptosi_nat _ (by omega), fptosi_nat _ (by omega)]
  simp only [mul_comm _ (tic (BitVec.ofNat 32 _ = BitVec.ofNat 32 (n % 128)))]
  rw [sum_tic_mul (n % 128) (Nat.mod_lt _ (by norm_num)) (by norm_num) _ rfl
    (fun x => ∑ y : Fin R, tic (BitVec.ofNat 32 y.val = BitVec.ofNat 32 (n / 128)) * g y x)]
  rw [sum_tic_mul (n / 128) (by omega) (by omega) _ rfl (fun y => g y ⟨n % 128, _⟩)]

/-- How many indices below `n` lie below `N`. -/
theorem count_lt (n N : ℕ) : count (fun k : Fin n => k.val < N) = min n N := by
  unfold count; convert Fin.card_filter_val_lt (n := n) (m := N)

/-- Conditions that are equivalent are met equally often. -/
theorem count_congr {ι : Type} [Fintype ι] {p q : ι → Prop} (h : ∀ i, p i ↔ q i) : count p = count q := by
  rw [show p = q from funext fun i => propext (h i)]

/-- A downward closed property of the indices below `n` is being below some bound. -/
theorem exists_bound (P : ℕ → Prop) (n : ℕ) (hP : ∀ i j, i ≤ j → j < n → P j → P i) :
    ∃ N, N ≤ n ∧ ∀ k, k < n → (P k ↔ k < N) := by
  classical
  induction n with
  | zero => exact ⟨0, le_refl _, fun k hk => absurd hk (by omega)⟩
  | succ n ih =>
    obtain ⟨N, hN, h⟩ := ih (fun i j hij hj => hP i j hij (by omega))
    by_cases hn : P n
    · exact ⟨n + 1, le_refl _, fun k hk => ⟨fun _ => hk, fun _ => hP k n (by omega) (by omega) hn⟩⟩
    · refine ⟨N, by omega, fun k hk => ?_⟩
      by_cases hkn : k = n
      · subst hkn; exact ⟨fun h => absurd h hn, fun h => absurd h (by omega)⟩
      · exact h k (by omega)

/-- Counting by rows and then inside the row that is reached, clipped at the last index of an array of `n`
    entries, is counting over the array, clipped. Nothing is known of the row reached when every row is full. -/
theorem two_level {R : ℕ} (n : ℕ) (hn : n ≤ 128 * R) (P : ℕ → Prop)
    (hP : ∀ i j, i ≤ j → j < 128 * R → P j → P i) (Q : Fin 128 → Prop) (rc : ℕ)
    (hrc : rc = count (fun x : Fin R => P (128 * x.val + 127)))
    (hQ : rc < R → ∀ l, Q l ↔ P (128 * rc + l.val)) :
    min (n - 1) (rc * 128 + count Q) = min (n - 1) (count (fun k : Fin n => P k.val)) := by
  obtain ⟨N, hN, h⟩ := exists_bound P (128 * R) hP
  have h1 : rc = min R (N / 128) := by
    rw [hrc, ← count_lt]
    refine count_congr fun x => ?_
    have := x.isLt
    rw [h _ (by omega)]
    omega
  have h2 : count (fun k : Fin n => P k.val) = min n N := by
    rw [← count_lt]
    refine count_congr fun x => ?_
    have := x.isLt
    exact h _ (by omega)
  rw [h2]
  by_cases hr : rc < R
  · have h3 : count Q = min 128 (N % 128) := by
      rw [← count_lt]
      refine count_congr fun x => ?_
      have := x.isLt
      rw [hQ hr, h _ (by omega)]
      omega
    rw [h3]
    have := Nat.mod_lt N (show 0 < 128 by norm_num)
    omega
  · omega

/-- Clipping a sum of two counts below and above, as extended reals. -/
theorem clip_nat (lo hi a b : ℕ) :
    min (hi : EReal) (max (lo : EReal) ((a : EReal) * Ideal.ofBits .f32 1124073472#32 + (b : EReal)))
      = ((max (min lo hi) (min hi (a * 128 + b)) : ℕ) : EReal) := by
  rw [ofBits_128]
  have : ((a : EReal) * ((128 : ℕ) : EReal) + (b : EReal)) = ((a * 128 + b : ℕ) : EReal) := by
    push_cast; rfl
  rw [this]
  have hm : Monotone (fun n : ℕ => (n : EReal)) := fun a b h => by
    show (a : EReal) ≤ (b : EReal); exact_mod_cast h
  rw [← hm.map_max, ← hm.map_min]
  congr 1; omega

/-- The clipped two-level count of a grid `g` whose entry of flat index `k` is `C k`, as the kernel writes it: the
    row maxes `m` compared first, the row of that number selected by a one-hot product and compared next. -/
theorem count_clip {R : ℕ} (hR : R ≤ 1000) (n lo : ℕ) (hn : n ≤ 128 * R) (C : ℕ → EReal) (p : EReal → Prop)
    (hP : ∀ i j, i ≤ j → j < 128 * R → p (C j) → p (C i)) (g : Fin R → Fin 128 → EReal)
    (hg : ∀ r l, g r l = C (128 * r.val + l.val)) (m : Fin R → EReal) (hm : ∀ x, m x = C (128 * x.val + 127)) :
    min ((n - 1 : ℕ) : EReal) (max (lo : EReal) ((∑ x, tic (p (m x))) * Ideal.ofBits .f32 1124073472#32
        + ∑ l : Fin 128, tic (p (∑ y : Fin R, tic (BitVec.ofNat 32 y.val = Ideal.fptosi 32 (∑ x, tic (p (m x)))) * g y l))))
      = ((max (min lo (n - 1)) (min (n - 1) (count (fun k : Fin n => p (C k.val)))) : ℕ) : EReal) := by
  rw [sum_tic (fun x => p (m x)), sum_tic (ι := Fin 128), clip_nat]
  set rc := count fun x => p (m x) with hrc
  rw [two_level n hn (fun k => p (C k)) hP _ rc (hrc.trans (count_congr fun x => by rw [hm]))]
  intro hr l
  rw [fptosi_nat _ (by omega), sum_tic_mul rc hr (by omega) _ rfl (fun y => g y l), hg]

/-- A sum weighted by the indicator of an initial segment of the indices. -/
theorem sum_mul_tic_le {n : ℕ} (f : ℕ → EReal) (l : ℕ) (hl : l < n) :
    ∑ x : Fin n, f x.val * tic (x.val ≤ l) = ∑ i ∈ Finset.range (l + 1), f i := by
  rw [Fin.sum_univ_eq_sum_range (fun i => f i * tic (i ≤ l)) n]
  rw [← Finset.sum_subset (Finset.range_subset_range.mpr (show l + 1 ≤ n by omega))]
  · refine Finset.sum_congr rfl fun i hi => ?_
    rw [tic_pos (by have := Finset.mem_range.mp hi; omega), mul_one]
  · intro i _ hi
    rw [tic_neg (by intro h; exact hi (Finset.mem_range.mpr (by omega))), mul_zero]

/-- The same with the indicator of the indices below a bound, on the left. -/
theorem sum_tic_lt_mul {n : ℕ} (f : ℕ → EReal) (l : ℕ) (hl : l ≤ n) :
    ∑ x : Fin n, tic (x.val < l) * f x.val = ∑ i ∈ Finset.range l, f i := by
  rw [Fin.sum_univ_eq_sum_range (fun i => tic (i < l) * f i) n]
  rw [← Finset.sum_subset (Finset.range_subset_range.mpr hl)]
  · refine Finset.sum_congr rfl fun i hi => ?_
    rw [tic_pos (Finset.mem_range.mp hi), one_mul]
  · intro i _ hi
    rw [tic_neg (by simpa using hi), zero_mul]

/-- Rows of 128 below row `r`, and the beginning of row `r`, are the beginning of the flat list. -/
theorem sum_rows (f : ℕ → EReal) (r l : ℕ) :
    ∑ x ∈ Finset.range l, f (128 * r + x) + ∑ x ∈ Finset.range r, ∑ y ∈ Finset.range 128, f (128 * x + y)
      = ∑ i ∈ Finset.range (128 * r + l), f i := by
  rw [Finset.sum_range_add, add_comm]
  congr 1
  induction r with
  | zero => simp
  | succ r ih => rw [Finset.sum_range_succ, ih, Nat.mul_succ, Finset.sum_range_add]

/-- The running sum of a grid, a row at a time: inside the row up to column `l`, plus the totals of the rows above. -/
theorem running_sum {R : ℕ} (f : ℕ → EReal) (r l : ℕ) (hr : r < R) (hl : l < 128) :
    ∑ x : Fin 128, f (128 * r + x.val) * tic (x.val ≤ l)
        + ∑ x : Fin R, tic (x.val < r) * ∑ y : Fin 128, f (128 * x.val + y.val) * tic (y.val ≤ 127)
      = ∑ i ∈ Finset.range (128 * r + l + 1), f i := by
  rw [sum_mul_tic_le (fun x => f (128 * r + x)) l hl]
  have h : ∀ x : Fin R, ∑ y : Fin 128, f (128 * x.val + y.val) * tic (y.val ≤ 127) = ∑ y ∈ Finset.range 128, f (128 * x.val + y) :=
    fun x => sum_mul_tic_le (fun y => f (128 * x.val + y)) 127 (by norm_num)
  simp only [h]
  rw [sum_tic_lt_mul (fun x => ∑ y ∈ Finset.range 128, f (128 * x + y)) r (by omega), sum_rows, Nat.add_assoc]

end Cert.Grid
end
-- ==== Proof.Impact.lean ====
module

public import proofs.«01_k».proof.Proof.Gen.KernelIdeal.Skeleton
public import proofs.«01_k».proof.Proof.Grid

@[expose] public section
set_option maxRecDepth 16384
noncomputable section

/-! What the kernel's first grid point computes for the impact times: the interpolation of the time grid over the
    normalized running sum of the density. -/

namespace Cert.KernelIdeal.Sampling
open Cert.KernelIdeal Cert.KernelIdeal.Gen Cert.Grid Idealize.ShloMosaic Idealize.SL.Sem

/-- Interpolation of the values `f` over the points `c` at `u`, as `jnp.interp` computes it for `u` up to the last
    point: the interval is found by counting the points up to `u`. -/
def interpAt (n : ℕ) (c f : ℕ → EReal) (u : EReal) : EReal :=
  let i := max 1 (min (n - 1) (count fun k : Fin n => c k.val ≤ u))
  open Classical in
  if u < c 0 then f 0
  else if FloatOps.absf (F := Ideal) (φ := .f32) (c i - c (i - 1)) ≤ Ideal.ofBits .f32 679477248#32 then f (i - 1)
  else f (i - 1) + Ideal.div (u - c (i - 1))
      (if FloatOps.absf (F := Ideal) (φ := .f32) (c i - c (i - 1)) ≤ Ideal.ofBits .f32 679477248#32 then 1 else c i - c (i - 1))
    * (f i - f (i - 1))

/-- The normalized running sum of `x`, of which only the first `n` values are not zero. -/
def cdf (n : ℕ) (x : ℕ → EReal) (k : ℕ) : EReal :=
  Ideal.div (∑ i ∈ Finset.range (k + 1), Ideal.div (x i) (∑ i ∈ Finset.range n, x i))
    (∑ i ∈ Finset.range n, Ideal.div (x i) (∑ i ∈ Finset.range n, x i))

section
variable (x : ℕ → EReal) (pdf : Vec Ideal S80x128 .f32) (hx : ∀ r l, pdf (ix2 r l) = x (128 * r.val + l.val))
include hx

/-- The grid of the running sum holds it at every flat index. -/
theorem pay10_apply (r : Fin 80) (l : Fin 128) : k0_pay10 (F := Ideal) pdf (ix2 r l) = cdf 10240 x (128 * r.val + l.val) := by
  pointwise [k0_pay10]
  simp only [hx]
  have hS : ∑ r : Fin 80, ∑ l : Fin 128, x (128 * r.val + l.val) = ∑ i ∈ Finset.range 10240, x i := by
    have := sum_rows x 80 0
    simp only [Finset.range_zero, Finset.sum_empty, zero_add] at this
    rw [← this, Finset.sum_range]
    exact Finset.sum_congr rfl fun r _ => (Finset.sum_range (fun y => x (128 * r.val + y))).symm
  rw [hS]
  have e : ∀ (a : ℕ) (b : Fin 128), a < 2 ^ 31 → FloatOps.sitofp (F := Ideal) FTy.f32 (BitVec.setWidth 32 (IntOp.cmpi .sle (BitVec.ofNat 32 a) (BitVec.ofNat 32 b.val))) = tic (a ≤ b.val) :=
    fun a b ha => sitofp_sle a b ha (by omega)
  have e1 : ∀ (a b : Fin 128), FloatOps.sitofp (F := Ideal) FTy.f32 (BitVec.setWidth 32 (IntOp.cmpi .sle (BitVec.ofNat 32 a.val) (BitVec.ofNat 32 b.val))) = tic (a.val ≤ b.val) :=
    fun a b => sitofp_sle a b (by omega) (by omega)
  have e2 : ∀ (a b : Fin 80), FloatOps.sitofp (F := Ideal) FTy.f32 (BitVec.setWidth 32 (IntOp.cmpi .slt (BitVec.ofNat 32 a.val) (BitVec.ofNat 32 b.val))) = tic (a.val < b.val) :=
    fun a b => sitofp_slt a b (by omega) (by omega)
  have e3 : ∀ (a : Fin 128), FloatOps.sitofp (F := Ideal) FTy.f32 (BitVec.setWidth 32 (IntOp.cmpi .sle (BitVec.ofNat 32 a.val) 127#32)) = tic (a.val ≤ 127) :=
    fun a => e1 a 127
  have e4 : ∀ (a : Fin 80), FloatOps.sitofp (F := Ideal) FTy.f32 (BitVec.setWidth 32 (IntOp.cmpi .slt (BitVec.ofNat 32 a.val) 79#32)) = tic (a.val < 79) :=
    fun a => e2 a 79
  simp only [e1, e2, e3, e4]
  have h1 := running_sum (R := 80) (fun i => Ideal.div (x i) (∑ i ∈ Finset.range 10240, x i)) r.val l.val r.isLt l.isLt
  have h2 := running_sum (R := 80) (fun i => Ideal.div (x i) (∑ i ∈ Finset.range 10240, x i)) 79 127 (by norm_num) (by norm_num)
  refine congrArg₂ Ideal.div ?_ ?_
  · exact h1
  · exact h2

omit hx in
/-- The row maxes are the last column. -/
theorem pay12_apply (d : Fin 256) (r : Fin 80) :
    k0_pay12 (F := Ideal) pdf (ix2 d r) = k0_pay10 (F := Ideal) pdf (ix2 r 127) := by
  unfold k0_pay12
  generalize k0_pay10 (F := Ideal) pdf = w
  pointwise
  simp only [sitofp_eq]
  exact sum_tic_mul r.val r.isLt (by norm_num) _ rfl (fun y => w (ix2 y 127))

section
variable (c : ℕ → EReal) (w : FVec Ideal S80x128 .f32) (hw : ∀ r l, w (ix2 r l) = c (128 * r.val + l.val))
  (hc : ∀ i j, i ≤ j → j < 10240 → c i ≤ c j)
omit hx
include hw hc

/-- The clipped count of the points up to the draw. -/
theorem pay13_apply (u : FVec Ideal S256x1 .f32) (mx : FVec Ideal S256x80 .f32) (hm : ∀ d r, mx (ix2 d r) = w (ix2 r 127)) (d : Fin 256) :
    k0_pay13 w u mx (ix2 d 0) = ((max 1 (min 9999 (count fun k : Fin 10000 => c k.val ≤ u (ix2 d 0))) : ℕ) : EReal) := by
  pointwise [k0_pay13]
  simp only [sitofp_eq, sitofp_decide]
  have h := count_clip (R := 80) (by norm_num) 10000 1 (by norm_num) c (· ≤ u (ix2 d 0))
    (fun i j hij hj h => (hc i j hij hj).trans h) (fun r l => w (ix2 r l)) hw (fun r => mx (ix2 d r))
    (fun r => (hm d r).trans (hw r 127))
  have e : Ideal.ofBits .f32 1176255488#32 = ((10000 - 1 : ℕ) : EReal) := by
    rw [← EReal.coe_natCast]
    simp [Ideal.ofBits, Ideal.ieee, -EReal.coe_mul]; norm_num
  rw [e]
  rw [Nat.cast_one] at h
  refine h.trans ?_
  congr 2

omit hc

/-- The one-hot products select the entry of a flat index. -/
theorem pick_apply (n : ℕ) (hn : n < 10240) (a : EReal) (ha : a = (n : EReal)) : pick (fun r l => w (ix2 r l)) a = c n := by
  rw [ha, pick_nat (by norm_num) _ n (by omega), hw]
  congr 1
  exact Nat.div_add_mod n 128

/-- The entry at the searched index, as the body gathers it. -/
theorem pay14_apply (u : FVec Ideal S256x1 .f32) (mx : FVec Ideal S256x80 .f32) (d : Fin 256) (n : ℕ) (hn : n < 10240)
    (h : k0_pay13 w u mx (ix2 d 0) = (n : EReal)) : k0_pay14 w u mx (ix2 d 0) = c n := by
  rw [← pick_apply c w hw n hn _ h]
  pointwise [k0_pay14]
  simp only [sitofp_eq]
  rfl

/-- The entry at a difference of two numbers, as the body gathers it. -/
theorem pay16_apply (v o : FVec Ideal S256x1 .f32) (d : Fin 256) (n : ℕ) (hn : n < 10240)
    (h : v (ix2 d 0) - o (ix2 d 0) = (n : EReal)) : k0_pay16 w v o (ix2 d 0) = c n := by
  rw [← pick_apply c w hw n hn _ h]
  pointwise [k0_pay16]
  simp only [sitofp_eq]
  rfl

/-- The entry at a given number, as the body gathers it. -/
theorem pay17_apply (v : FVec Ideal S256x1 .f32) (d : Fin 256) (n : ℕ) (hn : n < 10240)
    (h : v (ix2 d 0) = (n : EReal)) : k0_pay17 w v (ix2 d 0) = c n := by
  rw [← pick_apply c w hw n hn _ h]
  pointwise [k0_pay17]
  simp only [sitofp_eq]
  rfl

end
end

/-- One less than a positive natural number. -/
theorem sub_one_cast (n : ℕ) (hn : 1 ≤ n) : (n : EReal) - 1 = ((n - 1 : ℕ) : EReal) := by
  have h : (n : ℝ) - (1 : ℝ) = ((n - 1 : ℕ) : ℝ) := by push_cast [Nat.cast_sub hn]; ring
  have := congrArg (fun r : ℝ => (r : EReal)) h
  rw [← EReal.coe_natCast, ← EReal.coe_natCast, ← EReal.coe_one, ← EReal.coe_sub]
  exact this

/-- Conversion to an integer is that of the extended reals. -/
theorem fptosi_def (a : EReal) : FloatOps.fptosi (F := Ideal) (φ := .f32) 32 a = Ideal.fptosi 32 a := rfl

/-- The last step of the interpolation, over the values that are selected. -/
theorem pay20_apply (ts cw : FVec Ideal S80x128 .f32) (u ci cj ti v185 v188 : FVec Ideal S256x1 .f32) (c f : ℕ → EReal)
    (hf : ∀ r l, ts (ix2 r l) = f (128 * r.val + l.val)) (hc : ∀ r l, cw (ix2 r l) = c (128 * r.val + l.val))
    (d : Fin 256)
    (hi : ci (ix2 d 0) = c (max 1 (min 9999 (count fun k : Fin 10000 => c k.val ≤ u (ix2 d 0)))))
    (hj : cj (ix2 d 0) = c (max 1 (min 9999 (count fun k : Fin 10000 => c k.val ≤ u (ix2 d 0))) - 1))
    (ht : ti (ix2 d 0) = f (max 1 (min 9999 (count fun k : Fin 10000 => c k.val ≤ u (ix2 d 0)))))
    (h185 : v185 (ix2 d 0) = ((max 1 (min 9999 (count fun k : Fin 10000 => c k.val ≤ u (ix2 d 0))) - 1 : ℕ) : EReal))
    (h188 : v188 (ix2 d 0) = Ideal.liftRound Int.floor (v185 (ix2 d 0) * Ideal.ofBits .f32 1006632960#32)) :
    k0_pay20 ts cw u ci cj ti v185 v188 (ix2 d 0) = interpAt 10000 c f (u (ix2 d 0)) := by
  have hp := pick_apply f ts hf _ (by omega) _ h185
  unfold pick at hp
  pointwise [k0_pay20]
  simp only [sitofp_eq, fptosi_def]
  rw [hi, hj, ht, hf, hc, h188]
  simp only [hp]
  simp only [interpAt]
  congr

/-- The impact time that the first grid point stores for draw `d`. -/
theorem impact_time (x f : ℕ → EReal) (pdf ts : Vec Ideal S80x128 .f32) (hx : ∀ r l, pdf (ix2 r l) = x (128 * r.val + l.val))
    (hf : ∀ r l, ts (ix2 r l) = f (128 * r.val + l.val)) (hc : ∀ i j, i ≤ j → j < 10240 → cdf 10240 x i ≤ cdf 10240 x j)
    (u : Vec Ideal S256x1 .f32) (d : Fin 256) :
    k0_pay20 (F := Ideal) (k0_pay9 ts) (k0_pay10 pdf) (k0_pay11 u)
      (k0_pay14 (k0_pay10 pdf) (k0_pay11 u) (k0_pay12 pdf))
      (k0_pay16 (k0_pay10 pdf) (k0_pay13 (k0_pay10 pdf) (k0_pay11 u) (k0_pay12 pdf)) k0_pay15)
      (k0_pay17 (k0_pay9 ts) (k0_pay13 (k0_pay10 pdf) (k0_pay11 u) (k0_pay12 pdf)))
      (k0_pay18 (k0_pay13 (k0_pay10 pdf) (k0_pay11 u) (k0_pay12 pdf)))
      (k0_pay19 (k0_pay13 (k0_pay10 pdf) (k0_pay11 u) (k0_pay12 pdf))) (ix2 d 0)
      = interpAt 10000 (cdf 10240 x) f (u (ix2 d 0)) := by
  have h9 : ∀ r l, k0_pay9 (F := Ideal) ts (ix2 r l) = f (128 * r.val + l.val) := fun r l => by
    rw [← hf]; pointwise [k0_pay9]
  have h10 := pay10_apply x pdf hx
  have h11 : k0_pay11 (F := Ideal) u (ix2 d 0) = u (ix2 d 0) := by pointwise [k0_pay11]
  have h13 := pay13_apply (cdf 10240 x) (k0_pay10 pdf) h10 hc (k0_pay11 u) (k0_pay12 pdf) (pay12_apply pdf) d
  rw [← h11]
  generalize hu : k0_pay11 (F := Ideal) u = u' at *
  have hs := (congrArg (· - 1) h13).trans (sub_one_cast _ (by omega))
  refine pay20_apply (k0_pay9 ts) (k0_pay10 pdf) u' _ _ _ _ _ (cdf 10240 x) f h9 h10 d ?_ ?_ ?_ ?_ ?_
  · exact pay14_apply (cdf 10240 x) (k0_pay10 pdf) h10 _ _ d _ (by omega) h13
  · refine pay16_apply (cdf 10240 x) (k0_pay10 pdf) h10 _ _ d _ (by omega) ?_
    rw [← hs]; congr 1; pointwise [k0_pay15]
  · exact pay17_apply f (k0_pay9 ts) h9 _ d _ (by omega) h13
  · rw [← hs]; pointwise [k0_pay18]
  · pointwise [k0_pay19]

end Cert.KernelIdeal.Sampling
end
-- ==== Proof.Phi1.lean ====
module

public import proofs.«01_k».proof.Proof.Gen.KernelIdeal.Skeleton
public import proofs.«01_k».proof.Proof.Grid
public import proofs.«01_k».proof.Proof.Impact

@[expose] public section
set_option maxRecDepth 16384
noncomputable section

/-! What the kernel's first grid point computes for the stream angles: the entry of the evaluation points whose index
    is the number of running sums of the two probabilities below the scaled draw. -/

namespace Cert.KernelIdeal.Sampling
open Cert.KernelIdeal Cert.KernelIdeal.Gen Cert.Grid Idealize.ShloMosaic Idealize.SL.Sem

/-- Point `j` of the 1000 equally spaced points from `a` to `b`. -/
def lin (a b : EReal) (j : ℕ) : EReal :=
  if j = 999 then b
  else a * (1 - Ideal.div (j : EReal) (Ideal.ofBits .f32 1148829696#32)) + b * Ideal.div (j : EReal) (Ideal.ofBits .f32 1148829696#32)

/-- The evaluation points: 1000 from `b0` to `e0`, then 1000 from `e1` to `b1`. -/
def points (b0 b1 e0 e1 : EReal) (k : ℕ) : EReal := if k < 1000 then lin b0 e0 k else lin e1 b1 (k - 1000)

/-- The probability of point `k`. -/
def mass (p1 p2 : EReal) (k : ℕ) : EReal := if k < 1000 then p1 else p2

/-- The running sum of the probabilities. -/
def cum (p1 p2 : EReal) (k : ℕ) : EReal := ∑ i ∈ Finset.range (k + 1), mass p1 p2 i

/-- The probability of a point on one side whose length is `l`, of lengths `l` and `l'`. -/
def side (l t : EReal) : EReal := Ideal.div l t * Ideal.ofBits .f32 981668463#32

/-- The sampled angle: drawn from the points if something is excluded, uniform otherwise. -/
def angle (b0 b1 e0 e1 u : EReal) : EReal :=
  let p1 := side (e0 - b0) ((e0 - b0) + (b1 - e1))
  let p2 := side (b1 - e1) ((e0 - b0) + (b1 - e1))
  open Classical in
  if 0 < FloatOps.absf (F := Ideal) (φ := .f32) (e1 - e0) then
    points b0 b1 e0 e1 (min 1999 (count fun k : Fin 2000 => cum p1 p2 k.val < cum p1 p2 1999 * (1 - u)))
  else max b0 (u * (b1 - b0) + b0)

/-- A sum of equal terms. -/
theorem range_const (n : ℕ) (a : EReal) : ∑ _i ∈ Finset.range n, a = (n : EReal) * a := by
  rw [Finset.sum_const, Finset.card_range]
  exact EReal.nsmul_eq_mul n a

/-- The running sum in closed form on the first side. -/
theorem cum_fst (p1 p2 : EReal) (k : ℕ) (hk : k < 1000) : cum p1 p2 k = ((k : EReal) + 1) * p1 := by
  unfold cum
  rw [Finset.sum_congr rfl (g := fun _ => p1) fun i hi => by
    have := Finset.mem_range.mp hi; exact if_pos (by omega), range_const]
  push_cast; rfl

/-- The running sum in closed form on the second side. -/
theorem cum_snd (p1 p2 : EReal) (k : ℕ) (hk : 1000 ≤ k) :
    cum p1 p2 k = ((1000 : ℕ) : EReal) * p1 + ((k - 999 : ℕ) : EReal) * p2 := by
  unfold cum
  rw [show k + 1 = 1000 + (k - 999) by omega, Finset.sum_range_add]
  rw [← range_const, ← range_const]
  congr 1
  · exact Finset.sum_congr rfl fun i _ => if_neg (by omega)

/-- The literal 999. -/
theorem ofBits_999 : Ideal.ofBits .f32 1148829696#32 = ((999 : ℕ) : EReal) := by
  rw [← EReal.coe_natCast]; simp [Ideal.ofBits, Ideal.ieee, -EReal.coe_mul]; norm_num
/-- The literal 1000. -/
theorem ofBits_1000 : Ideal.ofBits .f32 1148846080#32 = ((1000 : ℕ) : EReal) := by
  rw [← EReal.coe_natCast]; simp [Ideal.ofBits, Ideal.ieee, -EReal.coe_mul]; norm_num
/-- The literal 1999. -/
theorem ofBits_1999 : Ideal.ofBits .f32 1157226496#32 = ((1999 : ℕ) : EReal) := by
  rw [← EReal.coe_natCast]; simp [Ideal.ofBits, Ideal.ieee, -EReal.coe_mul]; norm_num

/-- Subtraction of 999 from a natural number. -/
theorem sub_999 (n : ℕ) (hn : 999 ≤ n) : (n : EReal) - ((999 : ℕ) : EReal) = ((n - 999 : ℕ) : EReal) := by
  have h : (n : ℝ) - ((999 : ℕ) : ℝ) = ((n - 999 : ℕ) : ℝ) := by push_cast [Nat.cast_sub hn]; ring
  have := congrArg (fun r : ℝ => (r : EReal)) h
  rw [← EReal.coe_natCast, ← EReal.coe_natCast, ← EReal.coe_natCast, ← EReal.coe_sub]
  exact this

/-- The flat index as an integer word. -/
theorem flat_word (d : Fin 16) (l : Fin 128) :
    IntOp.addi (IntOp.muli (BitVec.ofNat 32 d.val) 128#32) (BitVec.ofNat 32 l.val) = BitVec.ofNat 32 (128 * d.val + l.val) := by
  apply BitVec.eq_of_toNat_eq
  have := d.isLt; have := l.isLt
  simp [IntOp.addi, IntOp.muli]; omega

/-- A small word is its natural number. -/
theorem toInt_small (k : ℕ) (hk : k < 2 ^ 31) : (BitVec.ofNat 32 k).toInt = (k : ℤ) := by
  rw [BitVec.toInt_eq_toNat_of_lt] <;> simp only [BitVec.toNat_ofNat] <;> omega

/-- A selection by a comparison of words with 1000. -/
theorem select_slt {α : Type} (k : ℕ) (hk : k < 2 ^ 31) (a b : α) :
    Scalar.select (IntOp.cmpi .slt (BitVec.ofNat 32 k) 1000#32) a b = if k < 1000 then a else b := by
  have e : IntOp.cmpi .slt (BitVec.ofNat 32 k) 1000#32 = BitVec.ofBool (decide (k < 1000)) := by
    have h2 : (1000#32 : BitVec 32).toInt = 1000 := by decide
    simp only [IntOp.cmpi, BitVec.slt, toInt_small k hk, h2]
    congr 1
    simp
  rw [e]
  by_cases h : k < 1000 <;> simp [h, Scalar.select]

/-- A selection by the equality of a word with 999. -/
theorem select_eq {α : Type} (k : ℕ) (hk : k < 2 ^ 31) (a b : α) :
    Scalar.select (IntOp.cmpi .eq (BitVec.ofNat 32 k) 999#32) a b = if k = 999 then a else b := by
  have e : IntOp.cmpi .eq (BitVec.ofNat 32 k) 999#32 = BitVec.ofBool (decide (k = 999)) := by
    simp only [IntOp.cmpi]
    congr 1
    rw [Bool.eq_iff_iff]
    simp only [beq_iff_eq, decide_eq_true_eq]
    constructor
    · intro h
      have := congrArg BitVec.toNat h
      simp only [BitVec.toNat_ofNat] at this
      omega
    · rintro rfl; rfl
  rw [e]
  by_cases h : k = 999 <;> simp [h, Scalar.select]

/-- A small word, as a float, is its natural number. -/
theorem sitofp_small (k : ℕ) (hk : k < 2 ^ 31) : FloatOps.sitofp (F := Ideal) .f32 (BitVec.ofNat 32 k) = (k : EReal) := by
  show (((BitVec.ofNat 32 k).toInt : ℝ) : EReal) = _
  rw [toInt_small k hk]; norm_cast

/-- The position within its side. -/
theorem within (k : ℕ) (hk : k < 2048) :
    Scalar.select (IntOp.cmpi .slt (BitVec.ofNat 32 k) 1000#32) (BitVec.ofNat 32 k) (IntOp.subi (BitVec.ofNat 32 k) 1000#32)
      = BitVec.ofNat 32 (if k < 1000 then k else k - 1000) := by
  rw [select_slt k (by omega)]
  split
  · rfl
  · apply BitVec.eq_of_toNat_eq
    simp [IntOp.subi]; omega

/-- The grid of running sums holds them at every flat index. -/
theorem pay35_apply (p1 p2 : FVec Ideal S1x1 .f32) (d : Fin 16) (l : Fin 128) :
    k0_pay35 (F := Ideal) p1 p2 k0_pay31 k0_pay33 k0_pay34 (ix2 d l) = cum (p1 (ix2 0 0)) (p2 (ix2 0 0)) (128 * d.val + l.val) := by
  pointwise [k0_pay35, k0_pay31, k0_pay33, k0_pay34, k0_pay30]
  have := d.isLt; have := l.isLt
  simp only [flat_word, select_slt _ (show 128 * d.val + l.val < 2 ^ 31 by omega), sitofp_small _ (show 128 * d.val + l.val < 2 ^ 31 by omega)]
  split
  · rename_i h; rw [cum_fst _ _ _ h]
  · rename_i h; rw [cum_snd _ _ _ (by omega), ofBits_1000, ofBits_999, sub_999 _ (by omega)]

/-- The grid of evaluation points holds them at every flat index. -/
theorem pay32_apply (b0 b1 e0 e1 : FVec Ideal S1x1 .f32) (d : Fin 16) (l : Fin 128) :
    k0_pay32 (F := Ideal) b0 b1 e0 e1 (ix2 d l)
      = points (b0 (ix2 0 0)) (b1 (ix2 0 0)) (e0 (ix2 0 0)) (e1 (ix2 0 0)) (128 * d.val + l.val) := by
  pointwise [k0_pay32, k0_pay31, k0_pay30]
  have := d.isLt; have := l.isLt
  simp only [flat_word, within _ (show 128 * d.val + l.val < 2048 by omega)]
  rw [select_slt _ (by omega), select_eq _ (by split <;> omega), select_eq _ (by split <;> omega), sitofp_small _ (by split <;> omega)]
  unfold points lin
  by_cases h : 128 * d.val + l.val < 1000
  · simp only [if_pos h]
  · simp only [if_neg h]

section
variable (p1 p2 : FVec Ideal S1x1 .f32) (u : Vec Ideal S256x1 .f32) (q : IVec S16x128 1) (a b : FVec Ideal S16x128 .f32)
  (C : ℕ → EReal) (hC : ∀ r l, k0_pay35 (F := Ideal) p1 p2 q a b (ix2 r l) = C (128 * r.val + l.val)) (d : Fin 256)
  (r : EReal) (hr : (Ideal.ofBits .f32 1148846080#32 * p1 (ix2 0 0) + Ideal.ofBits .f32 1148846080#32 * p2 (ix2 0 0)) * (1 - u (ix2 d 0)) = r)
include hC hr

/-- The number of rows whose last running sum is below the scaled draw. -/
theorem pay38_apply : k0_pay38 (F := Ideal) p1 p2 q a b u (ix2 d 0) = ∑ x : Fin 16, tic (C (128 * x.val + 127) < r) := by
  unfold k0_pay38
  generalize k0_pay35 (F := Ideal) p1 p2 q a b = pc at *
  pointwise [k0_pay37, k0_pay36]
  rw [hr]
  simp only [sitofp_eq, sitofp_decide]
  refine Finset.sum_congr rfl fun x _ => ?_
  rw [sum_tic_mul x.val x.isLt (by norm_num) _ rfl (fun y => pc (ix2 y 127)), hC]
  rfl

/-- The indicator inside the selected row. -/
theorem pay39_apply (l : Fin 128) : k0_pay39 (F := Ideal) p1 p2 q a b u (ix2 d l)
    = tic (∑ y : Fin 16, tic (BitVec.ofNat 32 y.val = Ideal.fptosi 32 (∑ x : Fin 16, tic (C (128 * x.val + 127) < r)))
        * C (128 * y.val + l.val) < r) := by
  have h38 := pay38_apply p1 p2 u q a b C hC d r hr
  unfold k0_pay39
  generalize k0_pay38 (F := Ideal) p1 p2 q a b u = rc at *
  generalize k0_pay35 (F := Ideal) p1 p2 q a b = pc at *
  pointwise [k0_pay37, k0_pay36]
  rw [hr, h38]
  simp only [sitofp_eq, sitofp_decide, hC]
  rfl

end

/-- The sampled angle that the first grid point stores for draw `d`. -/
theorem angle_sample (v227 v229 v231 v233 : Vec Ideal S1x1 .f32) (u : Vec Ideal S256x1 .f32) (d : Fin 256) (b0 b1 e0 e1 : EReal)
    (h0 : v227 (ix2 0 0) = b0) (h1 : v229 (ix2 0 0) = b1) (h2 : v231 (ix2 0 0) = e0) (h3 : v233 (ix2 0 0) = e1)
    (hc : ∀ i j, i ≤ j → cum (side (e0 - b0) ((e0 - b0) + (b1 - e1))) (side (b1 - e1) ((e0 - b0) + (b1 - e1))) i
      ≤ cum (side (e0 - b0) ((e0 - b0) + (b1 - e1))) (side (b1 - e1) ((e0 - b0) + (b1 - e1))) j) :
    k0_pay40 (F := Ideal) (k0_pay21 v227) (k0_pay22 v229) (k0_pay23 v231) (k0_pay24 v233)
      (k0_pay32 (k0_pay21 v227) (k0_pay22 v229) (k0_pay23 v231) (k0_pay24 v233)) (k0_pay36 u)
      (k0_pay38 (k0_pay28 (k0_pay22 v229) (k0_pay24 v233) (k0_pay25 v227 v231)) (k0_pay29 (k0_pay22 v229) (k0_pay24 v233) (k0_pay25 v227 v231))
        k0_pay31 k0_pay33 k0_pay34 u)
      (k0_pay39 (k0_pay28 (k0_pay22 v229) (k0_pay24 v233) (k0_pay25 v227 v231)) (k0_pay29 (k0_pay22 v229) (k0_pay24 v233) (k0_pay25 v227 v231))
        k0_pay31 k0_pay33 k0_pay34 u) (ix2 d 0)
      = angle b0 b1 e0 e1 (u (ix2 d 0)) := by
  have e0' : k0_pay21 (F := Ideal) v227 (ix2 0 0) = b0 := by rw [← h0]; pointwise [k0_pay21]
  have e1' : k0_pay22 (F := Ideal) v229 (ix2 0 0) = b1 := by rw [← h1]; pointwise [k0_pay22]
  have e2' : k0_pay23 (F := Ideal) v231 (ix2 0 0) = e0 := by rw [← h2]; pointwise [k0_pay23]
  have e3' : k0_pay24 (F := Ideal) v233 (ix2 0 0) = e1 := by rw [← h3]; pointwise [k0_pay24]
  have e4 : k0_pay25 (F := Ideal) v227 v231 (ix2 0 0) = e0 - b0 := by rw [← e2', ← e0']; rfl
  have ep1 : k0_pay28 (F := Ideal) (k0_pay22 v229) (k0_pay24 v233) (k0_pay25 v227 v231) (ix2 0 0)
      = side (e0 - b0) ((e0 - b0) + (b1 - e1)) := by
    pointwise [k0_pay28, k0_pay27, k0_pay26]; rw [e1', e3', e4]; rfl
  have ep2 : k0_pay29 (F := Ideal) (k0_pay22 v229) (k0_pay24 v233) (k0_pay25 v227 v231) (ix2 0 0)
      = side (b1 - e1) ((e0 - b0) + (b1 - e1)) := by
    pointwise [k0_pay29, k0_pay27, k0_pay26]; rw [e1', e3', e4]; rfl
  have hpc := pay35_apply (k0_pay28 (F := Ideal) (k0_pay22 v229) (k0_pay24 v233) (k0_pay25 v227 v231))
    (k0_pay29 (F := Ideal) (k0_pay22 v229) (k0_pay24 v233) (k0_pay25 v227 v231))
  have hev := pay32_apply (k0_pay21 v227) (k0_pay22 v229) (k0_pay23 v231) (k0_pay24 v233)
  rw [ep1, ep2] at hpc
  rw [e0', e1', e2', e3'] at hev
  have e36 : k0_pay36 (F := Ideal) u (ix2 d 0) = u (ix2 d 0) := by pointwise [k0_pay36]
  have hr : (Ideal.ofBits .f32 1148846080#32 * k0_pay28 (F := Ideal) (k0_pay22 v229) (k0_pay24 v233) (k0_pay25 v227 v231) (ix2 0 0)
      + Ideal.ofBits .f32 1148846080#32 * k0_pay29 (F := Ideal) (k0_pay22 v229) (k0_pay24 v233) (k0_pay25 v227 v231) (ix2 0 0))
        * (1 - u (ix2 d 0)) = cum (side (e0 - b0) ((e0 - b0) + (b1 - e1))) (side (b1 - e1) ((e0 - b0) + (b1 - e1))) 1999 * (1 - u (ix2 d 0)) := by
    rw [ep1, ep2, cum_snd _ _ 1999 (by norm_num), ofBits_1000]
  have h38 := pay38_apply _ _ u k0_pay31 k0_pay33 k0_pay34 _ hpc d _ hr
  have h39 := pay39_apply _ _ u k0_pay31 k0_pay33 k0_pay34 _ hpc d _ hr
  generalize k0_pay38 (F := Ideal) _ _ k0_pay31 k0_pay33 k0_pay34 u = rc at *
  generalize k0_pay39 (F := Ideal) _ _ k0_pay31 k0_pay33 k0_pay34 u = mk at *
  generalize k0_pay32 (F := Ideal) (k0_pay21 v227) (k0_pay22 v229) (k0_pay23 v231) (k0_pay24 v233) = g at *
  generalize k0_pay36 (F := Ideal) u = u' at *
  pointwise [k0_pay40]
  rw [e0', e1', e2', e3', e36, h38]
  simp only [h39, sitofp_eq, fptosi_def]
  have hcl := count_clip (R := 16) (by norm_num) 2000 0 (by norm_num) (cum (side (e0 - b0) ((e0 - b0) + (b1 - e1))) (side (b1 - e1) ((e0 - b0) + (b1 - e1))))
    (· < cum (side (e0 - b0) ((e0 - b0) + (b1 - e1))) (side (b1 - e1) ((e0 - b0) + (b1 - e1))) 1999 * (1 - u (ix2 d 0)))
    (fun i j hij _ h => (hc i j hij).trans_lt h) _ (fun _ _ => rfl) _ (fun _ => rfl)
  have hm : ∀ n : ℕ, (max (min 0 (2000 - 1)) (min (2000 - 1) n)) = min 1999 n := fun n => by omega
  rw [hm, Nat.cast_zero, show 2000 - 1 = 1999 from rfl] at hcl
  rw [ofBits_1999, hcl]
  have hp := pick_nat (R := 16) (by norm_num) (fun r l => g (ix2 r l)) (min 1999 (count fun k : Fin 2000 =>
    cum (side (e0 - b0) ((e0 - b0) + (b1 - e1))) (side (b1 - e1) ((e0 - b0) + (b1 - e1))) k.val
      < cum (side (e0 - b0) ((e0 - b0) + (b1 - e1))) (side (b1 - e1) ((e0 - b0) + (b1 - e1))) 1999 * (1 - u (ix2 d 0)))) (by omega)
  rw [hev, Nat.div_add_mod] at hp
  unfold pick at hp
  simp only [angle, ← hp]

end Cert.KernelIdeal.Sampling
end
-- ==== Proof.Facts.lean ====
module

public import proofs.«01_k».proof.Proof.Phi1

@[expose] public section
set_option maxRecDepth 16384
noncomputable section

/-! What the precondition gives: the normalized running sum of a density grows and ends at one, and so it does not matter
    whether the zeros after the density count; the running sums of the two probabilities grow. -/

namespace Cert.KernelIdeal.Sampling
open Cert.Grid Idealize.ShloMosaic

/-- Sums of more terms that are not negative are larger. -/
theorem sums_grow (g : ℕ → EReal) (hg : ∀ i, 0 ≤ g i) (i j : ℕ) (hij : i ≤ j) :
    ∑ k ∈ Finset.range i, g k ≤ ∑ k ∈ Finset.range j, g k :=
  Finset.sum_le_sum_of_subset_of_nonneg (Finset.range_mono hij) fun k _ _ => hg k

/-- A quotient of numbers that are not negative, by a positive number. -/
theorem div_nonneg' (a b : EReal) (ha : 0 ≤ a) (hb : 0 < b) : 0 ≤ Ideal.div a b := by
  unfold Ideal.div
  rw [if_neg hb.ne']
  exact mul_nonneg ha (EReal.inv_nonneg_of_nonneg hb.le)

/-- Dividing by one. -/
theorem div_one' (a : EReal) : Ideal.div a 1 = a := by
  unfold Ideal.div
  rw [if_neg one_ne_zero, inv_one, mul_one]

section
variable (x : ℕ → EReal) (h0 : ∀ i, 0 ≤ x i) (hz : ∀ i, 10000 ≤ i → x i = 0)
  (hp : 0 < ∑ i ∈ Finset.range 10000, x i) (ht : ∑ i ∈ Finset.range 10000, x i < ⊤)

include hz in
/-- Zeros do not change a sum. -/
theorem sum_more : ∑ i ∈ Finset.range 10240, x i = ∑ i ∈ Finset.range 10000, x i := by
  rw [show 10240 = 10000 + 240 from rfl, Finset.sum_range_add, Finset.sum_eq_zero (s := Finset.range 240), add_zero]
  exact fun i _ => hz _ (by omega)

/-- A sum of terms that are not negative, times a number that is not negative. -/
theorem sum_times (g : ℕ → EReal) (hg : ∀ i, 0 ≤ g i) (a : EReal) (n : ℕ) :
    ∑ i ∈ Finset.range n, g i * a = (∑ i ∈ Finset.range n, g i) * a := by
  induction n with
  | zero => simp
  | succ n ih =>
    rw [Finset.sum_range_succ, Finset.sum_range_succ, ih, EReal.right_distrib_of_nonneg (Finset.sum_nonneg fun i _ => hg i) (hg n)]

include h0 hp ht in
/-- The shares add up to one. -/
theorem shares : ∑ i ∈ Finset.range 10000, Ideal.div (x i) (∑ i ∈ Finset.range 10000, x i) = 1 := by
  generalize hs : ∑ i ∈ Finset.range 10000, x i = s at hp ht
  unfold Ideal.div
  simp only [if_neg hp.ne']
  rw [sum_times x h0, hs]
  lift s to ℝ using ⟨ht.ne, fun e => by rw [e] at hp; exact absurd hp (by simp)⟩
  have h : s ≠ 0 := fun e => by rw [e] at hp; exact absurd hp (by simp)
  rw [← EReal.coe_inv, ← EReal.coe_mul, mul_inv_cancel₀ h, EReal.coe_one]

include h0 hp ht in
/-- The normalized running sum is the running sum of the shares. -/
theorem cdf_shares (k : ℕ) : cdf 10000 x k = ∑ i ∈ Finset.range (k + 1), Ideal.div (x i) (∑ i ∈ Finset.range 10000, x i) := by
  unfold cdf
  rw [shares x h0 hp ht, div_one']

include hz hp in
/-- It is the same with the zeros. -/
theorem cdf_more : cdf 10240 x = cdf 10000 x := by
  funext k
  unfold cdf
  rw [sum_more x hz, sum_more (fun i => Ideal.div (x i) (∑ i ∈ Finset.range 10000, x i)) fun i hi => by
    rw [hz i hi]
    unfold Ideal.div
    rw [if_neg hp.ne', zero_mul]]

include h0 hp ht in
/-- The last cumulative probability is 1. -/
theorem cdf_last : cdf 10000 x 9999 = 1 := by
  rw [cdf_shares x h0 hp ht]
  exact shares x h0 hp ht

include h0 hp ht in
/-- The cumulative probabilities grow. -/
theorem cdf_grows (i j : ℕ) (hij : i ≤ j) : cdf 10000 x i ≤ cdf 10000 x j := by
  rw [cdf_shares x h0 hp ht, cdf_shares x h0 hp ht]
  exact sums_grow _ (fun i => div_nonneg' _ _ (h0 i) hp) _ _ (by omega)

end

/-- A positive float. -/
theorem thousandth : 0 < Ideal.ofBits .f32 981668463#32 := by
  simp [Ideal.ofBits, Ideal.ieee, -EReal.coe_mul]

/-- The running sums of the probabilities of points on two sides whose lengths are not negative. -/
theorem cum_grows (l l' : EReal) (h : 0 ≤ l) (h' : 0 ≤ l') (i j : ℕ) (hij : i ≤ j) :
    cum (side l (l + l')) (side l' (l + l')) i ≤ cum (side l (l + l')) (side l' (l + l')) j := by
  have hs := add_nonneg h h'
  rcases hs.eq_or_lt with e | e
  · have a : l = 0 := le_antisymm (e ▸ le_add_of_nonneg_right h') h
    have a' : l' = 0 := le_antisymm (e ▸ le_add_of_nonneg_left h) h'
    have hb : side 0 0 = ⊥ := by
      unfold side Ideal.div
      rw [if_pos rfl, if_neg (lt_irrefl _), EReal.bot_mul_of_pos thousandth]
    have hc : ∀ k, cum (⊥ : EReal) ⊥ k = ⊥ := fun k => by
      unfold cum mass
      rw [Finset.sum_range_succ]
      simp
    subst a a'
    rw [add_zero, hb, hc]
    exact bot_le
  · refine sums_grow _ (fun k => ?_) _ _ (by omega)
    unfold mass side
    split
    · exact mul_nonneg (div_nonneg' _ _ h e) thousandth.le
    · exact mul_nonneg (div_nonneg' _ _ h' e) thousandth.le

end Cert.KernelIdeal.Sampling
end
-- ==== Proof.RefTools.lean ====
module

public import proofs.«01_k».proof.Proof.Gen.ReferenceIdeal.Read
public import proofs.«01_k».proof.Proof.Phi1
public import Idealize.ShloMosaic.Lib.Routing.OpsSet
public import Idealize.ShloMosaic.Lib.Pointwise

@[expose] public section
set_option maxRecDepth 16384
noncomputable section

/-! The reference's operations on whole vectors, read as sums, counts and entries: the running sum, the number of
    comparisons that hold, and the entry at a computed index. -/

namespace Cert.ReferenceIdeal.Reading
open Cert.ReferenceIdeal Cert.ReferenceIdeal.Gen Cert.Grid Idealize.ShloMosaic Idealize.SL.Sem

/-- Adding up a list one term after the other gives the sum of its terms. -/
theorem foldl_sum {ι : Type} (l : List ι) (g f : ι → EReal) (h : ∀ a ∈ l, g a = f a) (v : EReal) :
    l.foldl (fun r a => r + g a) v = v + (l.map f).sum := by
  induction l generalizing v with
  | nil => simp
  | cons a l ih =>
    rw [List.foldl_cons, ih (fun b hb => h b (List.mem_cons_of_mem _ hb)), h a List.mem_cons_self, List.map_cons,
      List.sum_cons, add_assoc]

/-- A list of the first terms adds up to their sum. -/
theorem window_list (f : ℕ → EReal) (n : ℕ) : ((List.range n).map f).sum = ∑ i ∈ Finset.range n, f i := by
  induction n with
  | zero => simp
  | succ n ih => rw [List.range_succ, List.map_append, List.sum_append, ih, Finset.sum_range_succ]; simp

/-- The terms of a window that ends at `j` are the terms up to `j`. -/
theorem window_terms (f : ℕ → EReal) (b j : ℕ) (hj : j ≤ b) :
    ((List.range (b + 1)).map fun w => if b ≤ j + w then f (j + w - b) else 0).sum = ∑ i ∈ Finset.range (j + 1), f i := by
  rw [window_list, show b + 1 = (b - j) + (j + 1) by omega, Finset.sum_range_add]
  rw [Finset.sum_eq_zero (fun w hw => if_neg (by have := Finset.mem_range.1 hw; omega)), zero_add]
  refine Finset.sum_congr rfl fun i _ => ?_
  rw [if_pos (by omega)]
  congr 1
  omega

/-- The running sum of a vector, printed as a window over the vector padded on the left: entry `j` is the sum of the
    terms up to `j`. -/
theorem running {N b : ℕ} (hN : b + 1 = N) (x : FVec Ideal (Routing.shape1 N) .f32) (f : ℕ → EReal)
    (hx : ∀ i : Fin N, x (ix1 i) = f i.val) (init : FVec Ideal Routing.shape0 .f32) (hi : init ix0 = 0)
    (h : (Routing.shape1 N).ReduceWindows (![N] : Fin 1 → ℕ) ![1] ![b] ![0] (Routing.shape1 N))
    (hu : 0 < Routing.shape0.numel) (j : Fin N) :
    Host.reduceWindowAdd ![N] ![1] ![b] ![0] x init h hu (ix1 j) = ∑ i ∈ Finset.range (j.val + 1), f i := by
  subst hN
  have hv : init (Shape.Idx.first hu) = 0 := (congrArg init (funext fun a => a.elim0)).trans hi
  have hj := j.isLt
  show Host.reduceWindow (· + ·) ![b + 1] ![1] ![b] ![0] x
    (fun _ : (⟨0, ![]⟩ : Shape).Idx => init (Shape.Idx.first hu)) h hu (ix1 j) = _
  rw [hv]
  unfold Host.reduceWindow
  refine (foldl_sum _ _ (fun n => if b ≤ j.val + n.val then f (j.val + n.val - b) else 0) (fun n _ => ?_) _).trans ?_
  · have hw : ((Routing.shape1 (b + 1)).rowMajor.symm n 0).val = n.val := by rw [Routing.symm1]; rfl
    have hn : n.val < b + 1 := (n.cast (Routing.numel1 _)).isLt
    dsimp only
    split
    · next hin =>
      have h0 := hin 0
      change b ≤ j.val * 1 + ((Routing.shape1 (b + 1)).rowMajor.symm n 0).val
        ∧ j.val * 1 + ((Routing.shape1 (b + 1)).rowMajor.symm n 0).val - b < b + 1 at h0
      rw [hw] at h0
      rw [if_pos (by omega), ← hx ⟨j.val + n.val - b, by omega⟩]
      refine congrArg x (funext fun a => Fin.ext ?_)
      obtain rfl : a = 0 := Subsingleton.elim _ _
      show j.val * 1 + ((Routing.shape1 (b + 1)).rowMajor.symm n 0).val - b = j.val + n.val - b
      rw [hw, Nat.mul_one]
    · next hin =>
      rw [if_neg fun hle => hin fun a => by
        obtain rfl : a = 0 := Subsingleton.elim _ _
        show b ≤ j.val * 1 + ((Routing.shape1 (b + 1)).rowMajor.symm n 0).val
          ∧ j.val * 1 + ((Routing.shape1 (b + 1)).rowMajor.symm n 0).val - b < b + 1
        rw [hw]
        omega]
  · rw [Routing.map_finRange_val _ (fun w => if b ≤ j.val + w then f (j.val + w - b) else 0), Routing.numel1,
      window_terms f b j.val (by omega)]
    exact zero_add _

/-- Adding up, along a row, comparisons taken as integers counts those that hold. -/
theorem counted {n k : ℕ} (hk : k < 2 ^ 32) (c : IVec (Routing.shape2 n k) 1) (hw : 1 < 32)
    (h : (Routing.shape2 n k).ReducesTo [1] (Routing.shape1 n)) (hu : 0 < Routing.shape0.numel) (i : Fin n) (Q : ℕ → Prop)
    (hQ : ∀ q : Fin k, c (ix2 i q) = 1#1 ↔ Q q.val) :
    Host.reduce IntOp.addi (extui 32 c hw) (constantI Routing.shape0 32 0#32) h hu (ix1 i)
      = BitVec.ofNat 32 (count fun q : Fin k => Q q.val) := by
  classical
  rw [ix1_eq_valueIdx, Routing.reduce_count hk c hw h hu i Q (fun q => by rw [← ix2_eq_valueIdx]; exact hQ q), ← Routing.card_filter_fin k Q]
  unfold Cert.Grid.count
  congr

/-- No more indices satisfy a property than there are. -/
theorem count_le {n : ℕ} (p : Fin n → Prop) : Cert.Grid.count p ≤ n := by
  classical
  unfold Cert.Grid.count
  exact (Finset.card_filter_le _ _).trans (by simp)

/-- A choice by a comparison of numbers. -/
theorem choice {α : Type} (p : Prop) [Decidable p] (x y : α) :
    Scalar.select (BitVec.ofBool (decide p)) x y = if p then x else y := by
  by_cases h : p <;> simp [h, Scalar.select]

open Classical in
/-- A choice by "less". -/
theorem choice_lt {α : Type} (a b : EReal) (x y : α) :
    Scalar.select (FloatOps.cmpf (F := Ideal) (φ := .f32) .olt a b) x y = if a < b then x else y :=
  (choice (a < b) x y).trans (by congr)

open Classical in
/-- A choice by "greater". -/
theorem choice_gt {α : Type} (a b : EReal) (x y : α) :
    Scalar.select (FloatOps.cmpf (F := Ideal) (φ := .f32) .ogt a b) x y = if b < a then x else y :=
  (choice (b < a) x y).trans (by congr)

open Classical in
/-- A choice by "at most". -/
theorem choice_le {α : Type} (a b : EReal) (x y : α) :
    Scalar.select (FloatOps.cmpf (F := Ideal) (φ := .f32) .ole a b) x y = if a ≤ b then x else y :=
  (choice (a ≤ b) x y).trans (by congr)

/-- A comparison of small numbers for being negative fails. -/
theorem not_negative {α : Type} (b : ℕ) (hb : b < 2 ^ 31) (x y : α) :
    Scalar.select (IntOp.cmpi .slt (BitVec.ofNat 32 b) 0#32) x y = y := by
  have e : IntOp.cmpi .slt (BitVec.ofNat 32 b) 0#32 = 0#1 := by
    have h2 : (0#32 : BitVec 32).toInt = 0 := by decide
    simp only [IntOp.cmpi, BitVec.slt, Cert.KernelIdeal.Sampling.toInt_small b hb, h2]
    rw [decide_eq_false (by omega)]
    rfl
  rw [e]; rfl

/-- The entry of a vector of 10000 at an index that is in range: an index that is not negative is taken as it is. -/
theorem entry (x : FVec Ideal S10000 .f32) (s z w : IVec S256 32) (b : ℕ) (hb : b < 10000) (d : Fin 256)
    (hs : s (ix1 d) = BitVec.ofNat 32 b) (hz : z (ix1 d) = 0#32) :
    Host.gather gather_S10000_S256x1_S256_n_0_n_n_0_1_1 x
      (broadcastInDim S256x1 ![0] bcast_S256_S256x1_0 (select (cmpi .slt s z) (addi s w) s)) (ix1 d) = x (ix1 ⟨b, hb⟩) := by
  rw [ix1_eq_valueIdx, ix1_eq_valueIdx]
  refine Routing.gather_take1 (N := 10000) (n := 256) gather_S10000_S256x1_S256_n_0_n_n_0_1_1 rfl rfl rfl rfl x _ d ⟨b, hb⟩ ?_ (by norm_num)
  rw [← ix2_eq_valueIdx]
  pointwise
  rw [hs, hz, not_negative b (by omega)]

/-- The entry of a vector of 2000 at an index: beyond the last entry the last is taken. -/
theorem last_entry (x : FVec Ideal S2000 .f32) (s z w : IVec S256 32) (b : ℕ) (hb : b ≤ 2000) (d : Fin 256)
    (hs : s (ix1 d) = BitVec.ofNat 32 b) (hz : z (ix1 d) = 0#32) :
    Host.gather gather_S2000_S256x1_S256_n_0_n_n_0_1_1 x
      (broadcastInDim S256x1 ![0] bcast_S256_S256x1_0 (select (cmpi .slt s z) (addi s w) s)) (ix1 d)
      = x (ix1 ⟨min 1999 b, by omega⟩) := by
  have e := StableHlo.Predicate.gather_take (N := 2000) (n := 256) gather_S2000_S256x1_S256_n_0_n_n_0_1_1 rfl rfl rfl rfl x
    (broadcastInDim S256x1 ![0] bcast_S256_S256x1_0 (select (cmpi .slt s z) (addi s w) s)) d (by norm_num)
  rw [Routing.ofFin_eq_ix1, ← ix1_eq_valueIdx] at e
  refine e.trans ?_
  have hi : broadcastInDim S256x1 ![0] bcast_S256_S256x1_0 (select (cmpi .slt s z) (addi s w) s)
      (StableHlo.Predicate.ixP d) = BitVec.ofNat 32 b := by
    rw [Routing.ixP_eq_ix2, ← ix2_eq_valueIdx]
    pointwise
    rw [hs, hz, not_negative b (by omega)]
  refine congrArg x (funext fun a => Fin.ext ?_)
  obtain rfl : a = 0 := Subsingleton.elim _ _
  show min (BitVec.toInt (broadcastInDim S256x1 ![0] bcast_S256_S256x1_0 (select (cmpi .slt s z) (addi s w) s)
      (StableHlo.Predicate.ixP d))).toNat (2000 - 1) = min 1999 b
  rw [hi, StableHlo.Predicate.toInt_ofNat_small _ (by omega)]
  omega

/-- Clipping a small number between 1 and 9999. -/
theorem clipped (b : ℕ) (hb : b < 2 ^ 31) :
    IntOp.minsi 9999#32 (IntOp.maxsi 1#32 (BitVec.ofNat 32 b)) = BitVec.ofNat 32 (max 1 (min 9999 b)) := by
  have h1 : (1#32 : BitVec 32) = BitVec.ofNat 32 1 := rfl
  have h9 : (9999#32 : BitVec 32) = BitVec.ofNat 32 9999 := rfl
  have t := Cert.KernelIdeal.Sampling.toInt_small
  rcases le_or_gt b 1 with h | h
  · rw [show max 1 (min 9999 b) = 1 by omega]
    interval_cases b <;> decide
  · rcases le_or_gt b 9999 with h' | h'
    · have e : IntOp.maxsi 1#32 (BitVec.ofNat 32 b) = BitVec.ofNat 32 b := by
        simp only [IntOp.maxsi, BitVec.sle, BitVec.slt, h1, t 1 (by norm_num), t b hb]; split <;> simp_all <;> omega
      rw [e, show max 1 (min 9999 b) = b by omega]
      simp only [IntOp.minsi, BitVec.sle, BitVec.slt, h9, t 9999 (by norm_num), t b hb]; split <;> simp_all <;> first | omega | (congr 1; omega)
    · have e : IntOp.maxsi 1#32 (BitVec.ofNat 32 b) = BitVec.ofNat 32 b := by
        simp only [IntOp.maxsi, BitVec.sle, BitVec.slt, h1, t 1 (by norm_num), t b hb]; split <;> simp_all <;> omega
      rw [e, show max 1 (min 9999 b) = 9999 by omega]
      simp only [IntOp.minsi, BitVec.sle, BitVec.slt, h9, t 9999 (by norm_num), t b hb]; split <;> simp_all <;> first | omega | (congr 1; omega)

/-- One less than a small positive number. -/
theorem one_less (b : ℕ) (h1 : 1 ≤ b) (hb : b < 2 ^ 31) : IntOp.subi (BitVec.ofNat 32 b) 1#32 = BitVec.ofNat 32 (b - 1) := by
  simp only [IntOp.subi]
  apply BitVec.eq_of_toNat_eq
  simp only [BitVec.toNat_sub, BitVec.toNat_ofNat]
  omega

end Cert.ReferenceIdeal.Reading
end
-- ==== Proof.Pieces.lean ====
module

public import proofs.«01_k».proof.Proof.Gen.KernelIdeal.Skeleton
public import Idealize.ShloMosaic.Lib.Pipeline.Value
public import Idealize.ShloMosaic.Lib.Pointwise
public import Idealize.ShloMosaic.Lib.WholeRead
public import proofs.«01_k».proof.Proof.Grid

@[expose] public section
set_option maxRecDepth 16384
noncomputable section

/-! Contents stored in column ranges, read by column, and what one grid point adds to the sums of the window. -/

namespace Cert.KernelIdeal.Sampling
open Cert.KernelIdeal Cert.KernelIdeal.Gen Cert.Grid Idealize.ShloMosaic Idealize.SL.Sem

section
variable {e : EltTy} {n W w c : ℕ}

/-- Entry of a range of columns in the array. -/
theorem col_emb (inb : ∀ a, ![0, c] a + ![n, w] a ≤ (⟨2, ![n, W]⟩ : Shape).size a) (d : Fin n) (j : Fin W) (l : Fin w)
    (h : j.val = c + l.val) : (Rect.unit (s := ⟨2, ![n, W]⟩) ![0, c] ![n, w] inb).emb (ix2 d l) = ix2 d j := by
  funext a
  apply Fin.ext
  match a with
  | 0 => show 0 + 1 * d.val = d.val; omega
  | 1 => show c + 1 * l.val = j.val; omega

/-- Reading a range of columns. -/
theorem col_load (inb : ∀ a, ![0, c] a + ![n, w] a ≤ (⟨2, ![n, W]⟩ : Shape).size a) (d : Fin n) (j : Fin W) (l : Fin w)
    (h : j.val = c + l.val) : (Rect.unit (s := ⟨2, ![n, W]⟩) ![0, c] ![n, w] inb).toLoadRect.idx (ix2 d l) = ix2 d j :=
  col_emb inb d j l h

/-- A column of the last range stored. -/
theorem canon_hit (inb : ∀ a, ![0, c] a + ![n, w] a ≤ (⟨2, ![n, W]⟩ : Shape).size a)
    (p : (⟨2, ![n, w]⟩ : Shape).Idx → Elt Ideal e) (L : List (View.Piece (Elt Ideal) ⟨2, ![n, W]⟩ e)) (d : Fin n) (j : Fin W) (l : Fin w)
    (h : j.val = c + l.val) :
    View.canon (⟨Rect.unit (s := ⟨2, ![n, W]⟩) ![0, c] ![n, w] inb, p⟩ :: L) (ix2 d j) = p (ix2 d l) := by
  rw [← col_emb inb d j l h]
  exact View.canon_cons_emb (Rect.unit (s := ⟨2, ![n, W]⟩) ![0, c] ![n, w] inb) p L (ix2 d l)

/-- A column outside the last range stored. -/
theorem canon_miss (inb : ∀ a, ![0, c] a + ![n, w] a ≤ (⟨2, ![n, W]⟩ : Shape).size a)
    (p : (⟨2, ![n, w]⟩ : Shape).Idx → Elt Ideal e) (L : List (View.Piece (Elt Ideal) ⟨2, ![n, W]⟩ e)) (d : Fin n) (j : Fin W)
    (h : j.val < c ∨ c + w ≤ j.val) :
    View.canon (⟨Rect.unit (s := ⟨2, ![n, W]⟩) ![0, c] ![n, w] inb, p⟩ :: L) (ix2 d j) = View.canon L (ix2 d j) := by
  refine View.canon_cons_of_not_mem _ L fun hm => ?_
  obtain ⟨x, hx⟩ := (Rect.unit (s := ⟨2, ![n, W]⟩) ![0, c] ![n, w] inb).exists_idx_of_mem hm
  have h1 := congrArg Fin.val (congrFun hx 1)
  have h2 : (x 1).val < w := (x 1).isLt
  have h3 : c + 1 * (x 1).val = j.val := h1
  omega

end

/-- The particle at `p` lies inside the window around `s`. -/
def near (s p : EReal) : Prop := s - Ideal.ofBits .f32 1036831949#32 < p ∧ p < s + Ideal.ofBits .f32 1036831949#32

/-- What column `j` sums over the particles of a block: the six stream coordinates, the stripping time, one. -/
def weight (x7 : Vec Ideal S2000x6 .f32) (x8 : Vec Ideal S2000x1 .f32) (j : Fin 8) (x : Fin 2000) : EReal :=
  if h : j.val < 6 then x7 (ix2 x ⟨j.val, h⟩) else if j.val = 6 then x8 (ix2 x 0) else 1

/-- The mask of the window, as a number. -/
theorem sitofp_near (s p : EReal) :
    FloatOps.sitofp (F := Ideal) .f32 (BitVec.setWidth 32 (IntOp.andi (BitVec.ofBool (decide (s - Ideal.ofBits .f32 1036831949#32 < p)))
      (BitVec.ofBool (decide (p < s + Ideal.ofBits .f32 1036831949#32))))) = tic (near s p) := by
  rw [show ∀ a b : Bool, IntOp.andi (BitVec.ofBool a) (BitVec.ofBool b) = BitVec.ofBool (a && b) from by decide, sitofp_ofBool]
  congr 1
  simp [near]

/-- What one grid point leaves in the sums: what was there and the block's particles inside the window. -/
theorem sums_step (v3 : Vec Ideal S256x1 .f32) (x6 : Vec Ideal S1x1x2000 .f32) (x7 : Vec Ideal S2000x6 .f32) (x8 : Vec Ideal S2000x1 .f32)
    (a0 : Vec Ideal S256x6 .f32) (a6 a7 : Vec Ideal S256x1 .f32) (acc : Vec Ideal S256x8 .f32)
    (L : List (View.Piece (Elt Ideal) S256x8 .f32))
    (h0 : ∀ d (l : Fin 6) (j : Fin 8), j.val = l.val → a0 (ix2 d l) = acc (ix2 d j)) (h6 : ∀ d, a6 (ix2 d 0) = acc (ix2 d 6))
    (h7 : ∀ d, a7 (ix2 d 0) = acc (ix2 d 7)) (d : Fin 256) (j : Fin 8) :
    View.canon (⟨Rect.unit ![0, 7] ![256, 1] inb_S256x8_S256x1_0_7, k0_pay1 (k0_pay43 v3 x6) a7⟩
      :: ⟨Rect.unit ![0, 6] ![256, 1] inb_S256x8_S256x1_0_6, k0_pay45 v3 x6 a6 x8⟩
      :: ⟨Rect.unit ![0, 0] ![256, 6] inb_S256x8_S256x6_0_0, k0_pay44 v3 x6 a0 x7⟩ :: L) (ix2 d j)
      = acc (ix2 d j) + ∑ x : Fin 2000, tic (near (v3 (ix2 d 0)) (x6 (ix3 0 0 x))) * weight x7 x8 j x := by
  by_cases hj7 : j.val = 7
  · rw [canon_hit _ _ _ d j 0 (by simpa using hj7)]
    obtain rfl : j = 7 := Fin.ext hj7
    pointwise [k0_pay1, k0_pay43]
    simp only [sitofp_near]
    rw [h7]
    congr 1
    refine Finset.sum_congr rfl fun x _ => ?_
    rw [show weight x7 x8 7 x = 1 from rfl, mul_one]
  rw [canon_miss _ _ _ d j (by omega)]
  by_cases hj6 : j.val = 6
  · rw [canon_hit _ _ _ d j 0 (by simpa using hj6)]
    obtain rfl : j = 6 := Fin.ext hj6
    pointwise [k0_pay45, k0_pay43]
    simp only [sitofp_near]
    rw [h6]
    rfl
  rw [canon_miss _ _ _ d j (by omega)]
  have hj : j.val < 6 := by omega
  rw [canon_hit _ _ _ d j ⟨j.val, hj⟩ (by simp)]
  pointwise [k0_pay44, k0_pay43]
  simp only [sitofp_near]
  rw [h0 d ⟨j.val, hj⟩ j rfl]
  congr 1
  refine Finset.sum_congr rfl fun x _ => ?_
  unfold weight
  rw [dif_pos hj]

/-- The same with the block's contents named by equations. -/
theorem sums_step_of (s : Fin 256 → EReal) (x6 : Vec Ideal S1x1x2000 .f32) (x7 : Vec Ideal S2000x6 .f32) (x8 : Vec Ideal S2000x1 .f32)
    (acc : Vec Ideal S256x8 .f32) (v3 : Vec Ideal S256x1 .f32) (y6 : Vec Ideal S1x1x2000 .f32) (y7 : Vec Ideal S2000x6 .f32)
    (y8 : Vec Ideal S2000x1 .f32) (a0 : Vec Ideal S256x6 .f32) (a6 a7 : Vec Ideal S256x1 .f32)
    (L : List (View.Piece (Elt Ideal) S256x8 .f32)) (e3 : ∀ d, v3 (ix2 d 0) = s d) (e6 : y6 = x6) (e7 : y7 = x7) (e8 : y8 = x8)
    (h0 : ∀ d (l : Fin 6) (j : Fin 8), j.val = l.val → a0 (ix2 d l) = acc (ix2 d j)) (h6 : ∀ d, a6 (ix2 d 0) = acc (ix2 d 6))
    (h7 : ∀ d, a7 (ix2 d 0) = acc (ix2 d 7)) (d : Fin 256) (j : Fin 8) :
    View.canon (⟨Rect.unit ![0, 7] ![256, 1] inb_S256x8_S256x1_0_7, k0_pay1 (k0_pay43 v3 y6) a7⟩
      :: ⟨Rect.unit ![0, 6] ![256, 1] inb_S256x8_S256x1_0_6, k0_pay45 v3 y6 a6 y8⟩
      :: ⟨Rect.unit ![0, 0] ![256, 6] inb_S256x8_S256x6_0_0, k0_pay44 v3 y6 a0 y7⟩ :: L) (ix2 d j)
      = acc (ix2 d j) + ∑ x : Fin 2000, tic (near (s d) (x6 (ix3 0 0 x))) * weight x7 x8 j x := by
  subst e6 e7 e8
  rw [← e3 d]
  exact sums_step v3 y6 y7 y8 a0 a6 a7 acc L h0 h6 h7 d j

section
variable {e : EltTy}

/-- A whole load of a block reads it. -/
theorem whole_load {S : Shape} {m : Memref sig .tc .vmem S e} (h : m.IsWhole) (X : S.Idx → Elt Ideal e) {off : Fin S.rank → ℕ}
    (h0 : off = fun _ => 0) (inb : ∀ a, off a + S.size a ≤ S.size a) :
    View.readAt (Elt Ideal) m.view (Rect.unit off S.size inb).toLoadRect (h.unread X) = X := by
  rw [View.readAt_eq_ld, h.read_unread, View.ld_unit_zero h0]

/-- A load of a range of columns of a block reads those columns. -/
theorem range_load {n W w c : ℕ} {m : Memref sig .tc .vmem ⟨2, ![n, W]⟩ e} (h : m.IsWhole) (X : (⟨2, ![n, W]⟩ : Shape).Idx → Elt Ideal e)
    (inb : ∀ a, ![0, c] a + ![n, w] a ≤ (⟨2, ![n, W]⟩ : Shape).size a) (d : Fin n) (j : Fin W) (l : Fin w) (hj : j.val = c + l.val) :
    View.readAt (Elt Ideal) m.view (Rect.unit (s := ⟨2, ![n, W]⟩) ![0, c] ![n, w] inb).toLoadRect (h.unread X) (ix2 d l) = X (ix2 d j) := by
  rw [h.readAt_unread, ← col_load inb d j l hj]

/-- A load of a range of columns of what stores left reads those columns. -/
theorem range_cov {n W w c : ℕ} (m : Memref sig .tc .vmem ⟨2, ![n, W]⟩ e) (L : List (View.Piece (Elt Ideal) ⟨2, ![n, W]⟩ e))
    (inb : ∀ a, ![0, c] a + ![n, w] a ≤ (⟨2, ![n, W]⟩ : Shape).size a) (d : Fin n) (j : Fin W) (l : Fin w) (hj : j.val = c + l.val) :
    m.view.readCov L (Rect.unit (s := ⟨2, ![n, W]⟩) ![0, c] ![n, w] inb).toLoadRect (ix2 d l) = View.canon L (ix2 d j) := by
  rw [View.readCov_eq_canon', ← col_load inb d j l hj]

end

end Cert.KernelIdeal.Sampling
end
-- ==== Proof.Block.lean ====
module

public import proofs.«01_k».proof.Proof.Gen.KernelIdeal.Value
public import proofs.«01_k».proof.Proof.Pieces
public import proofs.«01_k».proof.Proof.Impact
public import proofs.«01_k».proof.Proof.Phi1

@[expose] public section
set_option maxRecDepth 16384
noncomputable section

/-! What one grid point leaves: the samples (first point), the sums (every point), the output (last point). -/

namespace Cert.KernelIdeal.Sampling
open Cert.KernelIdeal Cert.KernelIdeal.Gen Cert.Grid Idealize.ShloMosaic Idealize.SL.Sem

variable (c : Dev nD) (i : grid0.Coords) (arg1 : Memref sig .tc .vmem S1x4 .f32) (harg1 : arg1.IsWhole)
  (arg2 : Memref sig .tc .vmem S256x1 .f32) (harg2 : arg2.IsWhole) (arg3 : Memref sig .tc .vmem S256x1 .f32) (harg3 : arg3.IsWhole)
  (arg4 : Memref sig .tc .vmem S256x3 .f32) (harg4 : arg4.IsWhole) (arg5 : Memref sig .tc .vmem S80x128 .f32) (harg5 : arg5.IsWhole)
  (arg6 : Memref sig .tc .vmem S80x128 .f32) (harg6 : arg6.IsWhole) (arg7 : Memref sig .tc .vmem S1x1x2000 .f32) (harg7 : arg7.IsWhole)
  (arg8 : Memref sig .tc .vmem S2000x6 .f32) (harg8 : arg8.IsWhole) (arg9 : Memref sig .tc .vmem S2000x1 .f32) (harg9 : arg9.IsWhole)
  (arg10 : Memref sig .tc .vmem S256x12 .f32) (harg10 : arg10.IsWhole) (arg11 : Memref sig .tc .vmem S256x2 .f32) (harg11 : arg11.IsWhole)
  (arg12 : Memref sig .tc .vmem S256x8 .f32) (harg12 : arg12.IsWhole)
  (x0 : Vec Ideal S1x4 .f32) (x1 x2 : Vec Ideal S256x1 .f32) (x3 : Vec Ideal S256x3 .f32) (x4 x5 : Vec Ideal S80x128 .f32)
  (x6 : Vec Ideal S1x1x2000 .f32) (x7 : Vec Ideal S2000x6 .f32) (x8 : Vec Ideal S2000x1 .f32)
  (xs0 : Vec Ideal S256x2 .f32) (xs1 : Vec Ideal S256x8 .f32)

/-- The start of a read of a whole matrix. -/
theorem zeros2 : (![0, 0] : Fin 2 → ℕ) = fun _ => 0 := by decide
/-- The start of a read of a whole array of three axes. -/
theorem zeros3 : (![0, 0, 0] : Fin 3 → ℕ) = fun _ => 0 := by decide

/-- The sums after a middle point. -/
theorem sums_B (hc0 : ¬cond0_0 i) (hc1 : ¬cond0_1 i) (d : Fin 256) (j : Fin 8) :
    sout0_B_1 (F := Ideal) c i arg1 harg1 arg2 harg2 arg3 harg3 arg4 harg4 arg5 harg5 arg6 harg6 arg7 harg7 arg8 harg8 arg9 harg9
      arg10 harg10 arg11 harg11 arg12 harg12 hc0 hc1 x0 x1 x2 x3 x4 x5 x6 x7 x8 xs0 xs1 (ix2 d j)
      = xs1 (ix2 d j) + ∑ x : Fin 2000, tic (near (xs0 (ix2 d 1)) (x6 (ix3 0 0 x))) * weight x7 x8 j x := by
  unfold sout0_B_1 kernelRun0_B kernelRun0_B.sl.r kernelRun0_B.sl.r_1
  dsimp only
  rw [View.read_writes_junk_eq_canon]
  refine sums_step_of (fun d => xs0 (ix2 d 1)) x6 x7 x8 xs1 _ _ _ _ _ _ _ _ (fun d => ?_) ?_ ?_ ?_ (fun d l j hj => ?_) (fun d => ?_) (fun d => ?_) d j
  · exact range_load harg11 xs0 _ d 1 0 rfl
  · exact whole_load harg7 x6 zeros3 _
  · exact whole_load harg8 x7 zeros2 _
  · exact whole_load harg9 x8 zeros2 _
  · exact range_load harg12 xs1 _ d j l (by omega)
  · exact range_load harg12 xs1 _ d 6 0 rfl
  · exact range_load harg12 xs1 _ d 7 0 rfl

/-- The sums at the last point, as the output reads them. -/
theorem sums_C (d : Fin 256) (j : Fin 8) :
    View.canon (kernelRun0_C.sl.HS1_3 (F := Ideal) c arg7 harg7 arg8 harg8 arg9 harg9 arg11 harg11 arg12 harg12 x6 x7 x8 xs0 xs1) (ix2 d j)
      = xs1 (ix2 d j) + ∑ x : Fin 2000, tic (near (xs0 (ix2 d 1)) (x6 (ix3 0 0 x))) * weight x7 x8 j x := by
  unfold kernelRun0_C.sl.HS1_3 kernelRun0_C.sl.r kernelRun0_C.sl.r_1
  refine sums_step_of (fun d => xs0 (ix2 d 1)) x6 x7 x8 xs1 _ _ _ _ _ _ _ _ (fun d => ?_) ?_ ?_ ?_ (fun d l j hj => ?_) (fun d => ?_) (fun d => ?_) d j
  · exact range_load harg11 xs0 _ d 1 0 rfl
  · exact whole_load harg7 x6 zeros3 _
  · exact whole_load harg8 x7 zeros2 _
  · exact whole_load harg9 x8 zeros2 _
  · exact range_load harg12 xs1 _ d j l (by omega)
  · exact range_load harg12 xs1 _ d 6 0 rfl
  · exact range_load harg12 xs1 _ d 7 0 rfl

/-- The samples after the first point: the impact time. -/
theorem samples_A_time (hc0 : cond0_0 i) (hc1 : ¬cond0_1 i) (x f : ℕ → EReal) (hx : ∀ r l, x5 (ix2 r l) = x (128 * r.val + l.val))
    (hf : ∀ r l, x4 (ix2 r l) = f (128 * r.val + l.val)) (hc : ∀ i j, i ≤ j → j < 10240 → cdf 10240 x i ≤ cdf 10240 x j) (d : Fin 256) :
    sout0_A_0 (F := Ideal) c i arg1 harg1 arg2 harg2 arg3 harg3 arg4 harg4 arg5 harg5 arg6 harg6 arg7 harg7 arg8 harg8 arg9 harg9
      arg10 harg10 arg11 harg11 arg12 harg12 hc0 hc1 x0 x1 x2 x3 x4 x5 x6 x7 x8 (ix2 d 0)
      = interpAt 10000 (cdf 10240 x) f (x1 (ix2 d 0)) := by
  unfold sout0_A_0 kernelRun0_A kernelRun0_A.sl.HS0_2
  dsimp only
  rw [View.read_writes_junk_eq_canon]
  refine (canon_miss _ _ _ d 0 (by decide)).trans ?_
  refine (canon_hit _ _ _ d 0 0 (by decide)).trans ?_
  unfold kernelRun0_A.sl.r_10 kernelRun0_A.sl.r_5 kernelRun0_A.sl.r_6 kernelRun0_A.sl.r_7 kernelRun0_A.sl.r_8
    kernelRun0_A.sl.r_9 kernelRun0_A.sl.r_4 kernelRun0_A.sl.r_1 kernelRun0_A.sl.r_2 kernelRun0_A.sl.r_3 kernelRun0_A.sl.r
  rw [show View.readAt (Elt Ideal) arg5.view (Rect.unit ![0, 0] S80x128.size inb_S80x128_S80x128_0_0).toLoadRect (harg5.unread x4) = x4 from whole_load harg5 x4 zeros2 _,
    show View.readAt (Elt Ideal) arg6.view (Rect.unit ![0, 0] S80x128.size inb_S80x128_S80x128_0_0).toLoadRect (harg6.unread x5) = x5 from whole_load harg6 x5 zeros2 _,
    show View.readAt (Elt Ideal) arg2.view (Rect.unit ![0, 0] S256x1.size inb_S256x1_S256x1_0_0).toLoadRect (harg2.unread x1) = x1 from whole_load harg2 x1 zeros2 _]
  rw [← impact_time x f x5 x4 hx hf hc x1 d]
  unfold k0_pay41
  rw [shapeCast_self]

/-- The angle that the first point stores. -/
theorem angle_A (b0 b1 e0 e1 : EReal) (h0 : x0 (ix2 0 0) = b0) (h1 : x0 (ix2 0 1) = b1) (h2 : x0 (ix2 0 2) = e0) (h3 : x0 (ix2 0 3) = e1)
    (hc : ∀ i j, i ≤ j → cum (side (e0 - b0) ((e0 - b0) + (b1 - e1))) (side (b1 - e1) ((e0 - b0) + (b1 - e1))) i
      ≤ cum (side (e0 - b0) ((e0 - b0) + (b1 - e1))) (side (b1 - e1) ((e0 - b0) + (b1 - e1))) j) (d : Fin 256) :
    View.canon (kernelRun0_A.sl.HS0_2 (F := Ideal) c arg1 harg1 arg2 harg2 arg3 harg3 arg5 harg5 arg6 harg6 x0 x1 x2 x4 x5) (ix2 d 1)
      = angle b0 b1 e0 e1 (x2 (ix2 d 0)) := by
  unfold kernelRun0_A.sl.HS0_2
  refine (canon_hit _ _ _ d 1 0 (by decide)).trans ?_
  unfold kernelRun0_A.sl.r_22 kernelRun0_A.sl.r_18 kernelRun0_A.sl.r_19 kernelRun0_A.sl.r_20 kernelRun0_A.sl.r_21
    kernelRun0_A.sl.r_16 kernelRun0_A.sl.r_17 kernelRun0_A.sl.r_11 kernelRun0_A.sl.r_12 kernelRun0_A.sl.r_13 kernelRun0_A.sl.r_14 kernelRun0_A.sl.r_15
  rw [show View.readAt (Elt Ideal) arg3.view (Rect.unit ![0, 0] S256x1.size inb_S256x1_S256x1_0_0).toLoadRect (harg3.unread x2) = x2 from whole_load harg3 x2 zeros2 _]
  unfold k0_pay42
  rw [shapeCast_self]
  refine angle_sample _ _ _ _ x2 d b0 b1 e0 e1 ?_ ?_ ?_ ?_ hc
  · rw [← h0]; exact range_load harg1 x0 _ 0 0 0 rfl
  · rw [← h1]; exact range_load harg1 x0 _ 0 1 0 rfl
  · rw [← h2]; exact range_load harg1 x0 _ 0 2 0 rfl
  · rw [← h3]; exact range_load harg1 x0 _ 0 3 0 rfl

/-- The samples after the first point: the angle. -/
theorem samples_A_angle (hc0 : cond0_0 i) (hc1 : ¬cond0_1 i) (d : Fin 256) :
    sout0_A_0 (F := Ideal) c i arg1 harg1 arg2 harg2 arg3 harg3 arg4 harg4 arg5 harg5 arg6 harg6 arg7 harg7 arg8 harg8 arg9 harg9
      arg10 harg10 arg11 harg11 arg12 harg12 hc0 hc1 x0 x1 x2 x3 x4 x5 x6 x7 x8 (ix2 d 1)
      = View.canon (kernelRun0_A.sl.HS0_2 (F := Ideal) c arg1 harg1 arg2 harg2 arg3 harg3 arg5 harg5 arg6 harg6 x0 x1 x2 x4 x5) (ix2 d 1) := by
  unfold sout0_A_0 kernelRun0_A
  dsimp only
  rw [View.read_writes_junk_eq_canon]

/-- The sums after the first point. -/
theorem sums_A (hc0 : cond0_0 i) (hc1 : ¬cond0_1 i) (d : Fin 256) (j : Fin 8) :
    sout0_A_1 (F := Ideal) c i arg1 harg1 arg2 harg2 arg3 harg3 arg4 harg4 arg5 harg5 arg6 harg6 arg7 harg7 arg8 harg8 arg9 harg9
      arg10 harg10 arg11 harg11 arg12 harg12 hc0 hc1 x0 x1 x2 x3 x4 x5 x6 x7 x8 (ix2 d j)
      = 0 + ∑ x : Fin 2000, tic (near (View.canon (kernelRun0_A.sl.HS0_2 (F := Ideal) c arg1 harg1 arg2 harg2 arg3 harg3 arg5 harg5 arg6 harg6 x0 x1 x2 x4 x5) (ix2 d 1))
          (x6 (ix3 0 0 x))) * weight x7 x8 j x := by
  have hz : ∀ (d : Fin 256) (j : Fin 8), View.canon (kernelRun0_A.sl.HS1_1 (F := Ideal)) (ix2 d j) = 0 := fun d j => by
    unfold kernelRun0_A.sl.HS1_1
    refine (canon_hit _ _ _ d j j (by omega)).trans ?_
    pointwise [k0_pay8]
  unfold sout0_A_1 kernelRun0_A kernelRun0_A.sl.HS1_3 kernelRun0_A.sl.r_23 kernelRun0_A.sl.r_24 kernelRun0_A.sl.HS1_2
  dsimp only
  rw [View.read_writes_junk_eq_canon]
  refine sums_step_of (fun d => View.canon (kernelRun0_A.sl.HS0_2 (F := Ideal) c arg1 harg1 arg2 harg2 arg3 harg3 arg5 harg5 arg6 harg6 x0 x1 x2 x4 x5) (ix2 d 1))
    x6 x7 x8 (fun _ => 0) _ _ _ _ _ _ _ _ (fun d => ?_) ?_ ?_ ?_ (fun d l j hj => ?_) (fun d => ?_) (fun d => ?_) d j
  · exact range_cov arg11 _ _ d 1 0 rfl
  · exact whole_load harg7 x6 zeros3 _
  · exact whole_load harg8 x7 zeros2 _
  · exact whole_load harg9 x8 zeros2 _
  · exact (range_cov arg12 _ _ d j l (by omega)).trans (hz d j)
  · refine (range_cov arg12 _ _ d 6 0 rfl).trans ?_
    unfold kernelRun0_A.sl.HS1_2
    exact (canon_miss _ _ _ d 6 (by decide)).trans (hz d 6)
  · refine (range_cov arg12 _ _ d 7 0 rfl).trans ?_
    unfold kernelRun0_A.sl.HS1_3 kernelRun0_A.sl.HS1_2
    exact (canon_miss _ _ _ d 7 (by decide)).trans ((canon_miss _ _ _ d 7 (by decide)).trans (hz d 7))

/-- Column `j` of the output, of the host columns `k`, the samples `s` and the sums `a` of one draw. -/
def outCol (k : Fin 3 → EReal) (s : Fin 2 → EReal) (a : Fin 8 → EReal) (j : Fin 12) : EReal :=
  if h : 6 ≤ j.val then Ideal.div (a ⟨j.val - 6, by omega⟩) (max (a 7) 1)
  else ![k 0, s 0, s 1, k 1, k 2, Ideal.div (a 6) (max (a 7) 1)] ⟨j.val, by omega⟩

/-- The output after the last point. -/
theorem out_C (hc0 : ¬cond0_0 i) (hc1 : cond0_1 i) (d : Fin 256) (j : Fin 12) :
    out0_C_9 (F := Ideal) c i arg1 harg1 arg2 harg2 arg3 harg3 arg4 harg4 arg5 harg5 arg6 harg6 arg7 harg7 arg8 harg8 arg9 harg9
      arg10 harg10 arg11 harg11 arg12 harg12 hc0 hc1 x0 x1 x2 x3 x4 x5 x6 x7 x8 xs0 xs1 (ix2 d j)
      = outCol (fun k => x3 (ix2 d k)) (fun k => xs0 (ix2 d k))
          (fun k => xs1 (ix2 d k) + ∑ x : Fin 2000, tic (near (xs0 (ix2 d 1)) (x6 (ix3 0 0 x))) * weight x7 x8 k x) j := by
  have h44 : ∀ k : Fin 8, kernelRun0_C.sl.v44 (F := Ideal) c arg7 harg7 arg8 harg8 arg9 harg9 arg11 harg11 arg12 harg12 x6 x7 x8 xs0 xs1 (ix2 d k)
      = xs1 (ix2 d k) + ∑ x : Fin 2000, tic (near (xs0 (ix2 d 1)) (x6 (ix3 0 0 x))) * weight x7 x8 k x := fun k => by
    rw [← sums_C c arg7 harg7 arg8 harg8 arg9 harg9 arg11 harg11 arg12 harg12 x6 x7 x8 xs0 xs1 d k]
    unfold kernelRun0_C.sl.v44
    exact range_cov arg12 _ _ d k k (by omega)
  unfold out0_C_9 kernelRun0_C
  dsimp only
  rw [View.read_writes_junk_eq_canon]
  generalize kernelRun0_C.sl.v44 (F := Ideal) c arg7 harg7 arg8 harg8 arg9 harg9 arg11 harg11 arg12 harg12 x6 x7 x8 xs0 xs1 = w at *
  simp only [← h44]
  unfold outCol
  split
  · rename_i h
    refine (canon_hit _ _ _ d j ⟨j.val - 6, by omega⟩ (by simp; omega)).trans ?_
    pointwise [k0_pay7, k0_pay2]
  refine (canon_miss _ _ _ d j (by omega)).trans ?_
  obtain ⟨j, hj⟩ := j
  have hj6 : j < 6 := by simp at *; omega
  interval_cases j
  · refine (canon_miss _ _ _ d 0 (by decide)).trans ?_
    refine (canon_miss _ _ _ d 0 (by decide)).trans ?_
    refine (canon_miss _ _ _ d 0 (by decide)).trans ?_
    refine (canon_miss _ _ _ d 0 (by decide)).trans ?_
    refine (canon_miss _ _ _ d 0 (by decide)).trans ?_
    refine (canon_hit _ _ _ d 0 0 (by decide)).trans ?_
    unfold k0_pay3
    rw [shapeCast_self]
    exact range_load harg4 x3 _ d 0 0 rfl
  · refine (canon_miss _ _ _ d 1 (by decide)).trans ?_
    refine (canon_miss _ _ _ d 1 (by decide)).trans ?_
    refine (canon_miss _ _ _ d 1 (by decide)).trans ?_
    refine (canon_miss _ _ _ d 1 (by decide)).trans ?_
    refine (canon_hit _ _ _ d 1 0 (by decide)).trans ?_
    exact range_load harg11 xs0 _ d 0 0 rfl
  · refine (canon_miss _ _ _ d 2 (by decide)).trans ?_
    refine (canon_miss _ _ _ d 2 (by decide)).trans ?_
    refine (canon_miss _ _ _ d 2 (by decide)).trans ?_
    refine (canon_hit _ _ _ d 2 0 (by decide)).trans ?_
    exact range_load harg11 xs0 _ d 1 0 rfl
  · refine (canon_miss _ _ _ d 3 (by decide)).trans ?_
    refine (canon_miss _ _ _ d 3 (by decide)).trans ?_
    refine (canon_hit _ _ _ d 3 0 (by decide)).trans ?_
    unfold k0_pay4
    rw [shapeCast_self]
    exact range_load harg4 x3 _ d 1 0 rfl
  · refine (canon_miss _ _ _ d 4 (by decide)).trans ?_
    refine (canon_hit _ _ _ d 4 0 (by decide)).trans ?_
    unfold k0_pay5
    rw [shapeCast_self]
    exact range_load harg4 x3 _ d 2 0 rfl
  · refine (canon_hit _ _ _ d 5 0 (by decide)).trans ?_
    pointwise [k0_pay6, k0_pay2]

end Cert.KernelIdeal.Sampling
end
-- ==== Proof.Fold.lean ====
module

public import proofs.«01_k».proof.Proof.Block
public import Idealize.ShloMosaic.Lib.Pipeline.ValueKit

@[expose] public section
set_option maxRecDepth 16384
noncomputable section

/-! The output array of the whole grid, in terms of the arrays that the host hands to it. -/

namespace Cert.KernelIdeal.Sampling
open Cert.KernelIdeal Cert.KernelIdeal.Gen Cert.KernelIdeal.Value Cert.Grid Idealize.ShloMosaic Idealize.SL.Sem

variable (m : (ℓ : Loc nD τ sig) → Buf (Elt Ideal) ℓ) (c : Dev nD)

/-- The windows of the stars move with the block. -/
theorem index_moving : ∀ t : Fin cfg0.N, win0_6.index t = ![t.val, 0, 0] ∧ win0_7.index t = ![t.val, 0] ∧ win0_8.index t = ![t.val, 0] :=
  (by decide +kernel : ∀ t : Fin grid0.N, _)

/-- The other windows stay. -/
theorem index_fixed : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, _)

/-- There are 50 blocks. -/
theorem points_50 (t : Fin cfg0.N) : t.val < 50 := Nat.lt_of_lt_of_eq t.isLt N_0

/-- The position block `t` reads of the stream's coordinate. -/
theorem block6 (t : Fin cfg0.N) (x : Fin 2000) : iblk m c 6 t (ix3 0 0 x) = V m c main_v53 (ix3 ⟨t.val, points_50 t⟩ 0 x) := by
  generalize hV : V m c = W
  have e := (index_moving t).1
  unfold iblk
  rw [hV]
  blk_ext [e]

/-- The rows block `t` reads of the stream. -/
theorem block7 (t : Fin cfg0.N) (x : Fin 2000) (l : Fin 6) (i : Fin 100000) (hi : i.val = t.val * 2000 + x.val) :
    iblk m c 7 t (ix2 x l) = V m c main_arg0 (ix2 i l) := by
  generalize hV : V m c = W
  have e := (index_moving t).2.1
  unfold iblk
  rw [hV]
  blk_ext [e, hi]

/-- The rows block `t` reads of the stripping times. -/
theorem block8 (t : Fin cfg0.N) (x : Fin 2000) (i : Fin 100000) (hi : i.val = t.val * 2000 + x.val) :
    iblk m c 8 t (ix2 x 0) = V m c main_v54 (ix2 i 0) := by
  generalize hV : V m c = W
  have e := (index_moving t).2.2
  unfold iblk
  rw [hV]
  blk_ext [e, hi]

/-- The block of the bounds is the whole array. -/
theorem block0 (t : Fin cfg0.N) (d : Fin 1) (k : Fin 4) : iblk m c 0 t (ix2 d k) = V m c main_v72 (ix2 d k) := by
  generalize hV : V m c = W
  have e := (index_fixed t).1
  unfold iblk
  rw [hV]
  blk_ext [e]

/-- The block of the draws of the times is the whole array. -/
theorem block1 (t : Fin cfg0.N) (d : Fin 256) (k : Fin 1) : iblk m c 1 t (ix2 d k) = V m c main_v73 (ix2 d k) := by
  generalize hV : V m c = W
  have e := (index_fixed t).2.1
  unfold iblk
  rw [hV]
  blk_ext [e]

/-- The block of the draws of the angles is the whole array. -/
theorem block2 (t : Fin cfg0.N) (d : Fin 256) (k : Fin 1) : iblk m c 2 t (ix2 d k) = V m c main_v74 (ix2 d k) := by
  generalize hV : V m c = W
  have e := (index_fixed t).2.2.1
  unfold iblk
  rw [hV]
  blk_ext [e]

/-- The block of the columns that the host computes is the whole array. -/
theorem block3 (t : Fin cfg0.N) (d : Fin 256) (k : Fin 3) : iblk m c 3 t (ix2 d k) = V m c main_v52 (ix2 d k) := by
  generalize hV : V m c = W
  have e := (index_fixed t).2.2.2.1
  unfold iblk
  rw [hV]
  blk_ext [e]

/-- The block of the times is the whole grid. -/
theorem block4 (t : Fin cfg0.N) (d : Fin 80) (k : Fin 128) : iblk m c 4 t (ix2 d k) = V m c main_v56 (ix2 d k) := by
  generalize hV : V m c = W
  have e := (index_fixed t).2.2.2.2.1
  unfold iblk
  rw [hV]
  blk_ext [e]

/-- The block of the density is the whole grid. -/
theorem block5 (t : Fin cfg0.N) (d : Fin 80) (k : Fin 128) : iblk m c 5 t (ix2 d k) = V m c main_v58 (ix2 d k) := by
  generalize hV : V m c = W
  have e := (index_fixed t).2.2.2.2.2
  unfold iblk
  rw [hV]
  blk_ext [e]

/-- What sum `k` adds for particle `i` where the impact is at `s`: the particles have positions `p`, stream rows `A`, stripping times `q`. -/
def hit (p q : Fin 100000 → EReal) (A : Fin 100000 → Fin 6 → EReal) (k : Fin 8) (s : EReal) (i : Fin 100000) : EReal :=
  tic (near s (p i)) * if h : k.val < 6 then A i ⟨k.val, h⟩ else if k.val = 6 then q i else 1

/-- The part of sum `k` of block `t`. -/
def blockSum (p q : Fin 100000 → EReal) (A : Fin 100000 → Fin 6 → EReal) (k : Fin 8) (s : EReal) (t : ℕ) : EReal :=
  if h : t < 50 then ∑ x : Fin 2000, hit p q A k s ⟨t * 2000 + x.val, by omega⟩ else 0

/-- The blocks together are the whole stream. -/
theorem sum_blockSum (p q : Fin 100000 → EReal) (A : Fin 100000 → Fin 6 → EReal) (k : Fin 8) (s : EReal) :
    ∑ t ∈ Finset.range 50, blockSum p q A k s t = ∑ i : Fin 100000, hit p q A k s i := by
  rw [Fin.sum_univ_tiles 50 2000 (by norm_num), Finset.sum_range]
  refine Finset.sum_congr rfl fun t _ => ?_
  unfold blockSum
  rw [dif_pos t.isLt]

variable (p q : Fin 100000 → EReal) (A : Fin 100000 → Fin 6 → EReal) (x f : ℕ → EReal) (b0 b1 e0 e1 : EReal)

/-- What the host hands to the blocks: positions `p`, rows `A`, times `q`, the grid of times `f`, the density `x`, the four bounds. -/
structure Handed : Prop where
  hp : ∀ (t : Fin 50) (y : Fin 2000), V m c main_v53 (ix3 t 0 y) = p ⟨t.val * 2000 + y.val, by omega⟩
  hq : ∀ i : Fin 100000, V m c main_v54 (ix2 i 0) = q i
  hA : ∀ (i : Fin 100000) (l : Fin 6), V m c main_arg0 (ix2 i l) = A i l
  hf : ∀ (r : Fin 80) (l : Fin 128), V m c main_v56 (ix2 r l) = f (128 * r.val + l.val)
  hx : ∀ (r : Fin 80) (l : Fin 128), V m c main_v58 (ix2 r l) = x (128 * r.val + l.val)
  h0 : V m c main_v72 (ix2 0 0) = b0
  h1 : V m c main_v72 (ix2 0 1) = b1
  h2 : V m c main_v72 (ix2 0 2) = e0
  h3 : V m c main_v72 (ix2 0 3) = e1
  hcdf : ∀ i j, i ≤ j → j < 10240 → cdf 10240 x i ≤ cdf 10240 x j
  hcum : ∀ i j, i ≤ j → cum (side (e0 - b0) ((e0 - b0) + (b1 - e1))) (side (b1 - e1) ((e0 - b0) + (b1 - e1))) i
      ≤ cum (side (e0 - b0) ((e0 - b0) + (b1 - e1))) (side (b1 - e1) ((e0 - b0) + (b1 - e1))) j

variable {m c p q A x f b0 b1 e0 e1}

/-- The part of a sum that one block adds. -/
theorem block_sum (H : Handed m c p q A x f b0 b1 e0 e1) (t : Fin cfg0.N) (k : Fin 8) (s : EReal) :
    ∑ y : Fin 2000, tic (near s (iblk m c 6 t (ix3 0 0 y))) * weight (iblk m c 7 t) (iblk m c 8 t) k y = blockSum p q A k s t.val := by
  unfold blockSum
  rw [dif_pos (points_50 t)]
  refine Finset.sum_congr rfl fun y _ => ?_
  have ht := points_50 t
  unfold hit weight
  rw [block6, H.hp ⟨t.val, points_50 t⟩ y]
  congr 1
  split
  · rw [block7 m c t y _ ⟨t.val * 2000 + y.val, by omega⟩ rfl, H.hA]
  · split
    · rw [block8 m c t y ⟨t.val * 2000 + y.val, by omega⟩ rfl, H.hq]
    · rfl

/-- The impact time of draw `d`. -/
def timeOf (m : (ℓ : Loc nD τ sig) → Buf (Elt Ideal) ℓ) (c : Dev nD) (x f : ℕ → EReal) (d : Fin 256) : EReal :=
  interpAt 10000 (cdf 10240 x) f (V m c main_v73 (ix2 d 0))

/-- The impact angle of draw `d`. -/
def angleOf (m : (ℓ : Loc nD τ sig) → Buf (Elt Ideal) ℓ) (c : Dev nD) (b0 b1 e0 e1 : EReal) (d : Fin 256) : EReal :=
  angle b0 b1 e0 e1 (V m c main_v74 (ix2 d 0))

/-- What point `n` leaves for the next. -/
theorem carried (H : Handed m c p q A x f b0 b1 e0 e1) (n : ℕ) (hn : n < cfg0.N) (h49 : n < 49) (d : Fin 256) :
    (outsAt0 m c n hn).2.1 (ix2 d 0) = timeOf m c x f d ∧ (outsAt0 m c n hn).2.1 (ix2 d 1) = angleOf m c b0 b1 e0 e1 d
      ∧ ∀ k : Fin 8, (outsAt0 m c n hn).2.2 (ix2 d k) = ∑ t ∈ Finset.range (n + 1), blockSum p q A k (angleOf m c b0 b1 e0 e1 d) t := by
  induction n with
  | zero =>
    have e : outsAt0 m c 0 hn = _ := outsAt0_A m c ⟨0, hn⟩ (by norm_num) (by norm_num)
    have ha := angle_A c (ms0_0 (⟨0, hn⟩ : Fin cfg0.N)) (hs0_0 ⟨0, hn⟩) (ms0_1 ⟨0, hn⟩) (hs0_1 ⟨0, hn⟩) (ms0_2 ⟨0, hn⟩) (hs0_2 ⟨0, hn⟩) (ms0_4 ⟨0, hn⟩) (hs0_4 ⟨0, hn⟩)
      (ms0_5 ⟨0, hn⟩) (hs0_5 ⟨0, hn⟩) (iblk m c 0 ⟨0, hn⟩) (iblk m c 1 ⟨0, hn⟩) (iblk m c 2 ⟨0, hn⟩) (iblk m c 4 ⟨0, hn⟩) (iblk m c 5 ⟨0, hn⟩) b0 b1 e0 e1
      ((block0 m c _ 0 0).trans H.h0) ((block0 m c _ 0 1).trans H.h1) ((block0 m c _ 0 2).trans H.h2) ((block0 m c _ 0 3).trans H.h3) H.hcum d
    rw [block2] at ha
    rw [e]
    clear e
    dsimp only
    refine ⟨?_, ?_, fun k => ?_⟩
    · refine (samples_A_time (x := x) (f := f) (hx := fun r l => (block5 m c _ r l).trans (H.hx r l))
        (hf := fun r l => (block4 m c _ r l).trans (H.hf r l)) (hc := H.hcdf) (d := d) ..).trans ?_
      rw [block1]; rfl
    · exact (samples_A_angle (d := d) ..).trans ha
    · refine (sums_A (d := d) (j := k) ..).trans ?_
      rw [ha, block_sum H, Finset.sum_range_one, zero_add]; rfl
  | succ n ih =>
    obtain ⟨i0, i1, ik⟩ := ih (Nat.lt_of_succ_lt hn) (by omega)
    have e : outsAt0 m c (n + 1) hn = _ := outsAt0_B m c ⟨n + 1, hn⟩ (by show ¬(n + 1) % 50 = 0; omega) (by show ¬(n + 1) % 50 = 49; omega)
    rw [e]
    clear e
    dsimp only
    refine ⟨i0, i1, fun k => ?_⟩
    refine (sums_B (d := d) (j := k) ..).trans ?_
    rw [block_sum H, Finset.sum_range_succ, ← ik k, ← i1]; rfl

/-- A result's column depends on the host's columns, the samples and the sums alone. -/
theorem outCol_congr {k k' : Fin 3 → EReal} {s s' : Fin 2 → EReal} {a a' : Fin 8 → EReal} (j : Fin 12) (hk : k = k') (hs : s = s') (ha : a = a') :
    outCol k s a j = outCol k' s' a' j := by rw [hk, hs, ha]

/-- The output array, by columns. -/
theorem output (H : Handed m c p q A x f b0 b1 e0 e1) (d : Fin 256) (j : Fin 12) :
    G9 m c (ix2 d j) = outCol (fun k => V m c main_v52 (ix2 d k)) ![timeOf m c x f d, angleOf m c b0 b1 e0 e1 d]
      (fun k => ∑ i : Fin 100000, hit p q A k (angleOf m c b0 b1 e0 e1 d) i) j := by
  have hN : 49 < cfg0.N := lt_of_lt_of_eq (by decide) N_0.symm
  rw [G9_last, ← outsAt0_sweep m c 49 hN]
  have e : outsAt0 m c 49 hN = _ := outsAt0_C m c ⟨49, hN⟩ (by norm_num) (by norm_num)
  obtain ⟨i0, i1, ik⟩ := carried H 48 (Nat.lt_of_succ_lt hN) (by norm_num) d
  rw [e]
  clear e
  dsimp only
  refine (out_C (d := d) (j := j) ..).trans ?_
  refine outCol_congr j (funext fun k => block3 m c _ d k) (funext fun k => ?_) (funext fun k => ?_)
  · match k with
    | 0 => exact i0
    | 1 => exact i1
  · rw [block_sum H, ← sum_blockSum, Finset.sum_range_succ, ← ik k, ← i1]

end Cert.KernelIdeal.Sampling
end
-- ==== Proof.Host.lean ====
module

public import proofs.«01_k».proof.Proof.Fold
public import proofs.«01_k».proof.Proof.Gen.ReferenceIdeal.Read
public import Idealize.ShloMosaic.Lib.Claim
public import Idealize.ShloMosaic.Lib.StableHlo.RunRead

@[expose] public section
set_option maxRecDepth 16384
noncomputable section

/-! What the host computes of the arguments and hands to the kernel's blocks. -/

namespace Cert.KernelIdeal.Sampling
open Cert.KernelIdeal Cert.KernelIdeal.Gen Cert.KernelIdeal.Value Cert.Grid Idealize.ShloMosaic Idealize.SL.Sem

variable (m : (ℓ : Loc nD τ sig) → Buf (Elt Ideal) ℓ) (c : Dev nD)

/-- A vector of 10000 numbers, continued by zeros. -/
def padded (x : (⟨1, ![10000]⟩ : Shape).Idx → EReal) (i : ℕ) : EReal := if h : i < 10000 then x (ix1 ⟨i, h⟩) else 0

/-- The positions, in blocks. -/
theorem host_positions (t : Fin 50) (y : Fin 2000) :
    V m c main_v53 (ix3 t 0 y) = m (c.tc.loc main_arg1) (ix1 ⟨t.val * 2000 + y.val, by omega⟩) := by
  unfold V
  simp only [List.flatten_cons, List.flatten_nil, List.append_nil]
  after_reads_simp
  pointwise

/-- The stripping times, as a column. -/
theorem host_times (i : Fin 100000) : V m c main_v54 (ix2 i 0) = m (c.tc.loc main_arg2) (ix1 i) := by
  unfold V
  simp only [List.flatten_cons, List.flatten_nil, List.append_nil]
  after_reads_simp
  pointwise

/-- The draws of the impact times, as a column. -/
theorem host_ut (d : Fin 256) : V m c main_v73 (ix2 d 0) = m (c.tc.loc main_arg8) (ix1 d) := by
  unfold V
  simp only [List.flatten_cons, List.flatten_nil, List.append_nil]
  after_reads_simp
  pointwise

/-- The draws of the angles, as a column. -/
theorem host_uc (d : Fin 256) : V m c main_v74 (ix2 d 0) = m (c.tc.loc main_arg9) (ix1 d) := by
  unfold V
  simp only [List.flatten_cons, List.flatten_nil, List.append_nil]
  after_reads_simp
  pointwise

/-- The lower bound. -/
theorem host_b0 : V m c main_v72 (ix2 0 0) = m (c.tc.loc main_arg5) (ix1 0) := by
  unfold V
  simp only [List.flatten_cons, List.flatten_nil, List.append_nil]
  after_reads_simp
  pointwise
  after_reads_simp
  pointwise

/-- The upper bound. -/
theorem host_b1 : V m c main_v72 (ix2 0 1) = m (c.tc.loc main_arg5) (ix1 1) := by
  unfold V
  simp only [List.flatten_cons, List.flatten_nil, List.append_nil]
  after_reads_simp
  pointwise
  after_reads_simp
  pointwise

/-- The lower end of the excluded interval. -/
theorem host_e0 : V m c main_v72 (ix2 0 2) = m (c.tc.loc main_arg6) (ix1 0) := by
  unfold V
  simp only [List.flatten_cons, List.flatten_nil, List.append_nil]
  after_reads_simp
  pointwise
  after_reads_simp
  pointwise

/-- The upper end of the excluded interval. -/
theorem host_e1 : V m c main_v72 (ix2 0 3) = m (c.tc.loc main_arg6) (ix1 1) := by
  unfold V
  simp only [List.flatten_cons, List.flatten_nil, List.append_nil]
  after_reads_simp
  pointwise
  after_reads_simp
  pointwise

/-- The integer 0 is the number 0. -/
theorem sitofp_zero : FloatOps.sitofp (F := Ideal) .f32 (0#32) = (0 : EReal) := (sitofp_small 0 (by norm_num)).trans (by simp)

/-- A padded vector in rows of 128, as the host writes it. -/
theorem padded_flip (x : (⟨1, ![10000]⟩ : Shape).Idx → EReal) (r : Fin 80) (l : Fin 128) :
    (if h : r.val * 128 + l.val < 10000 then x (ix1 ⟨r.val * 128 + l.val, h⟩) else FloatOps.sitofp (F := Ideal) .f32 (0#32))
      = padded x (128 * r.val + l.val) := by
  rw [Nat.mul_comm 128, sitofp_zero]; rfl

/-- The grid of times, padded, in rows of 128. -/
theorem host_ts (r : Fin 80) (l : Fin 128) : V m c main_v56 (ix2 r l) = padded (m (c.tc.loc main_arg3)) (128 * r.val + l.val) := by
  unfold V
  simp only [List.flatten_cons, List.flatten_nil, List.append_nil]
  after_reads_simp
  pointwise
  simp only [StableHlo.TRef.toBuf, StableHlo.TRef.ofBuf, cast_eq]
  pointwise
  exact padded_flip _ r l

/-- The density, padded, in rows of 128. -/
theorem host_pdf (r : Fin 80) (l : Fin 128) : V m c main_v58 (ix2 r l) = padded (m (c.tc.loc main_arg4)) (128 * r.val + l.val) := by
  unfold V
  simp only [List.flatten_cons, List.flatten_nil, List.append_nil]
  after_reads_simp
  pointwise
  simp only [StableHlo.TRef.toBuf, StableHlo.TRef.ofBuf, cast_eq]
  pointwise
  exact padded_flip _ r l

/-- The velocities, as the reference computes them. -/
theorem host_w : V m c main_v48 = Cert.ReferenceIdeal.Read.val_main_v229 (F := Ideal) (m (c.tc.loc main_arg11)) := by
  unfold V
  simp only [List.flatten_cons, List.flatten_nil, List.append_nil]
  after_reads_simp
  simp only [StableHlo.TRef.toBuf, StableHlo.TRef.ofBuf, cast_eq]
  rfl

/-- The impact parameters, as the reference computes them. -/
theorem host_b : V m c main_v5 = Cert.ReferenceIdeal.Read.val_main_v5 (F := Ideal) (m (c.tc.loc main_arg7)) := by
  unfold V
  simp only [List.flatten_cons, List.flatten_nil, List.append_nil]
  after_reads_simp
  rfl

/-- The directions, as the reference computes them. -/
theorem host_a : V m c main_v11 = Cert.ReferenceIdeal.Read.val_main_v192 (F := Ideal) (m (c.tc.loc main_arg10)) := by
  unfold V
  simp only [List.flatten_cons, List.flatten_nil, List.append_nil]
  after_reads_simp
  rfl

/-- Column 0 of the host's: the impact parameters. -/
theorem host_column0 (d : Fin 256) : V m c main_v52 (ix2 d 0) = Cert.ReferenceIdeal.Read.val_main_v5 (F := Ideal) (m (c.tc.loc main_arg7)) (ix1 d) := by
  have e : V m c main_v49 = broadcastInDim S256x1 ![0] bcast_S256_S256x1_0 (V m c main_v5) := by
    unfold V
    simp only [List.flatten_cons, List.flatten_nil, List.append_nil]
    after_reads_simp
  have e' : V m c main_v52 (ix2 d 0) = V m c main_v49 (ix2 d 0) := by
    generalize hR : V m c main_v49 = R
    unfold V
    simp only [List.flatten_cons, List.flatten_nil, List.append_nil]
    after_reads_simp
    pointwise
    subst hR
    unfold V
    simp only [List.flatten_cons, List.flatten_nil, List.append_nil]
    after_reads_simp
  rw [e', e, host_b]
  generalize Cert.ReferenceIdeal.Read.val_main_v5 (F := Ideal) (m (c.tc.loc main_arg7)) = R
  pointwise

/-- Column 1: the directions. -/
theorem host_column1 (d : Fin 256) : V m c main_v52 (ix2 d 1) = Cert.ReferenceIdeal.Read.val_main_v192 (F := Ideal) (m (c.tc.loc main_arg10)) (ix1 d) := by
  have e : V m c main_v50 = broadcastInDim S256x1 ![0] bcast_S256_S256x1_0 (V m c main_v11) := by
    unfold V
    simp only [List.flatten_cons, List.flatten_nil, List.append_nil]
    after_reads_simp
  have e' : V m c main_v52 (ix2 d 1) = V m c main_v50 (ix2 d 0) := by
    generalize hR : V m c main_v50 = R
    unfold V
    simp only [List.flatten_cons, List.flatten_nil, List.append_nil]
    after_reads_simp
    pointwise
    subst hR
    unfold V
    simp only [List.flatten_cons, List.flatten_nil, List.append_nil]
    after_reads_simp
  rw [e', e, host_a]
  generalize Cert.ReferenceIdeal.Read.val_main_v192 (F := Ideal) (m (c.tc.loc main_arg10)) = R
  pointwise

/-- Column 2: the velocities. -/
theorem host_column2 (d : Fin 256) : V m c main_v52 (ix2 d 2) = Cert.ReferenceIdeal.Read.val_main_v229 (F := Ideal) (m (c.tc.loc main_arg11)) (ix1 d) := by
  have e : V m c main_v51 = broadcastInDim S256x1 ![0] bcast_S256_S256x1_0 (V m c main_v48) := by
    unfold V
    simp only [List.flatten_cons, List.flatten_nil, List.append_nil]
    after_reads_simp
  have e' : V m c main_v52 (ix2 d 2) = V m c main_v51 (ix2 d 0) := by
    generalize hR : V m c main_v51 = R
    unfold V
    simp only [List.flatten_cons, List.flatten_nil, List.append_nil]
    after_reads_simp
    pointwise
    subst hR
    unfold V
    simp only [List.flatten_cons, List.flatten_nil, List.append_nil]
    after_reads_simp
  rw [e', e, host_w]
  generalize Cert.ReferenceIdeal.Read.val_main_v229 (F := Ideal) (m (c.tc.loc main_arg11)) = R
  pointwise

end Cert.KernelIdeal.Sampling
end
-- ==== Proof.RefTime.lean ====
module

public import proofs.«01_k».proof.Proof.RefTools
public import proofs.«01_k».proof.Proof.Host

@[expose] public section
set_option maxRecDepth 16384
noncomputable section

/-! What the reference computes for the impact times: interpolation in the normalized running sum of the density. -/

namespace Cert.ReferenceIdeal.Reading
open Cert.ReferenceIdeal Cert.ReferenceIdeal.Gen Cert.ReferenceIdeal.Read Cert.Grid Idealize.ShloMosaic Idealize.SL.Sem
open Cert.KernelIdeal.Sampling (padded cdf interpAt)

/-- The floats 0 and 1. -/
theorem float_zero : FloatOps.ofBits (F := Ideal) .f32 0#32 = (0 : EReal) := Ideal.ofBits_zero_f32
/-- The literal 1. -/
theorem float_one : FloatOps.ofBits (F := Ideal) .f32 1065353216#32 = (1 : EReal) := Ideal.ofBits_one_f32

section
variable (x3 x4 : FVec Ideal S10000 .f32) (u : FVec Ideal S256 .f32)

/-- Within its length a padded vector is the vector. -/
theorem padded_at (i : Fin 10000) : padded x4 i.val = x4 (ix1 i) := dif_pos i.isLt

/-- A sum over the entries is the sum of the continued vector's first 10000. -/
theorem sum_entries : ∑ j : S10000.Idx, x4 j = ∑ i ∈ Finset.range 10000, padded x4 i := by
  rw [Finset.sum_range]
  refine (Fintype.sum_equiv ⟨fun i => ix1 i, fun j => j 0, fun i => rfl, fun j => (eq_ix1 j).symm⟩ _ _ fun i => ?_).symm
  exact padded_at x4 i

/-- The density, divided by its sum. -/
theorem ref_share (i : Fin 10000) :
    val_main_v8 (F := Ideal) x4 (ix1 i) = Ideal.div (padded x4 i.val) (∑ i ∈ Finset.range 10000, padded x4 i) := by
  rw [val_main_v8_apply, val_main_v7_apply, val_main_v6_apply, val_main_cst_1_apply, float_zero, zero_add, sum_entries, padded_at]
  rfl

/-- Its running sum. -/
theorem ref_running (k : Fin 10000) : val_main_v9 (F := Ideal) x4 (ix1 k)
    = ∑ i ∈ Finset.range (k.val + 1), Ideal.div (padded x4 i) (∑ i ∈ Finset.range 10000, padded x4 i) := by
  unfold val_main_v9
  refine running (N := 10000) (b := 9999) rfl _ _ (ref_share x4) _ ?_ reduceWindows_S10000_S10000_w10000s1p9999_0 h_S_ k
  rw [val_main_call0_call0_v0_apply]
  exact float_zero

/-- The last entry of the running sum. -/
theorem ref_total : val_main_v11 (F := Ideal) x4 ix0
    = ∑ i ∈ Finset.range 10000, Ideal.div (padded x4 i) (∑ i ∈ Finset.range 10000, padded x4 i) := by
  unfold val_main_v11
  pointwise
  rw [val_main_v10_apply]
  refine Eq.trans (congrArg (val_main_v9 (F := Ideal) x4) ?_) (ref_running x4 ⟨9999, by norm_num⟩)
  funext a
  obtain rfl : a = 0 := Subsingleton.elim _ _
  rfl

/-- The normalized running sum. -/
theorem ref_cdf (k : Fin 10000) : val_main_v13 (F := Ideal) x4 (ix1 k) = cdf 10000 (padded x4) k.val := by
  rw [val_main_v13_apply, ref_running, val_main_v12_apply, Subsingleton.elim (idx_main_v12 (ix1 k)) ix0, ref_total]
  rfl

/-- How many entries of the normalized running sum are at most the draw. -/
theorem ref_count (d : Fin 256) : val_main_v20 (F := Ideal) x4 u (ix1 d)
    = BitVec.ofNat 32 (count fun k : Fin 10000 => cdf 10000 (padded x4) k.val ≤ u (ix1 d)) := by
  unfold val_main_v20 val_main_v19 val_main_c
  refine counted (n := 256) (k := 10000) (by norm_num) _ natLt_1_32 reducesTo_S256x10000_S256_d1 h_S_ d
    (fun k => cdf 10000 (padded x4) k ≤ u (ix1 d)) fun q => ?_
  rw [val_main_v18_apply, val_main_v16_apply, val_main_v14_apply, val_main_v17_apply, val_main_v15_apply]
  have e1 : idx_main_v14 (idx_main_v16 (ix2 d q)) = ix1 q := by
    funext a; obtain rfl : a = 0 := Subsingleton.elim _ _; rfl
  have e2 : idx_main_v15 (idx_main_v17 (ix2 d q)) = ix1 d := by
    funext a; obtain rfl : a = 0 := Subsingleton.elim _ _; rfl
  rw [e1, e2, ref_cdf]
  show BitVec.ofBool (decide _) = 1#1 ↔ _
  by_cases h : cdf 10000 (padded x4) q.val ≤ u (ix1 d) <;> simp [h]

/-- The index of the interpolation: that number, clipped. -/
theorem ref_index (d : Fin 256) : val_main_v21 (F := Ideal) x4 u (ix1 d)
    = BitVec.ofNat 32 (max 1 (min 9999 (count fun k : Fin 10000 => cdf 10000 (padded x4) k.val ≤ u (ix1 d)))) := by
  rw [val_main_v21_apply, val_main_call1_v2_apply, ref_count]
  exact clipped _ (lt_of_le_of_lt (count_le _) (by norm_num))

/-- The interpolated value, where the draw does not exceed the last of the normalized running sum. -/
theorem ref_time (d : Fin 256) (hu : ¬ cdf 10000 (padded x4) 9999 < u (ix1 d)) :
    val_main_v105 (F := Ideal) x3 x4 u (ix1 d) = interpAt 10000 (cdf 10000 (padded x4)) (padded x3) (u (ix1 d)) := by
  obtain ⟨b, hb⟩ : ∃ b, b = max 1 (min 9999 (count fun k : Fin 10000 => cdf 10000 (padded x4) k.val ≤ u (ix1 d))) := ⟨_, rfl⟩
  have hi : val_main_v21 (F := Ideal) x4 u (ix1 d) = BitVec.ofNat 32 b := hb ▸ ref_index x4 u d
  have h1 : 1 ≤ b := by omega
  have h2 : b < 10000 := by omega
  have hl : ∀ c : IVec S256 32, c (ix1 d) = 1#32 →
      subi (val_main_v21 (F := Ideal) x4 u) c (ix1 d) = BitVec.ofNat 32 (b - 1) := fun c hc => by
    show IntOp.subi _ _ = _
    rw [hi, hc, one_less b h1 (by omega)]
  have hf : ∀ (k : ℕ) (h : k < 10000), x3 (ix1 ⟨k, h⟩) = padded x3 k := fun k h => (padded_at x3 ⟨k, h⟩).symm
  have g28 : val_main_v28 (F := Ideal) x3 x4 u (ix1 d) = padded x3 b := (entry x3 _ _ _ b h2 d hi rfl).trans (hf _ _)
  have g37 : val_main_v37 (F := Ideal) x3 x4 u (ix1 d) = padded x3 (b - 1) :=
    (entry x3 _ _ _ (b - 1) (by omega) d (hl _ rfl) rfl).trans (hf _ _)
  have g77 : val_main_v77 (F := Ideal) x3 x4 u (ix1 d) = padded x3 (b - 1) :=
    (entry x3 _ _ _ (b - 1) (by omega) d (hl _ rfl) rfl).trans (hf _ _)
  have g86 : val_main_v86 (F := Ideal) x3 x4 u (ix1 d) = padded x3 (b - 1) :=
    (entry x3 _ _ _ (b - 1) (by omega) d (hl _ rfl) rfl).trans (hf _ _)
  have g45 : val_main_v45 (F := Ideal) x4 u (ix1 d) = cdf 10000 (padded x4) b :=
    (entry (val_main_v13 (F := Ideal) x4) _ _ _ b h2 d hi rfl).trans (ref_cdf x4 ⟨b, h2⟩)
  have g54 : val_main_v54 (F := Ideal) x4 u (ix1 d) = cdf 10000 (padded x4) (b - 1) :=
    (entry (val_main_v13 (F := Ideal) x4) _ _ _ (b - 1) (by omega) d (hl _ rfl) rfl).trans (ref_cdf x4 ⟨b - 1, by omega⟩)
  have g64 : val_main_v64 (F := Ideal) x4 u (ix1 d) = cdf 10000 (padded x4) (b - 1) :=
    (entry (val_main_v13 (F := Ideal) x4) _ _ _ (b - 1) (by omega) d (hl _ rfl) rfl).trans (ref_cdf x4 ⟨b - 1, by omega⟩)
  have e94 : val_main_v94 (F := Ideal) x4 (ix1 d) = cdf 10000 (padded x4) 0 := by
    rw [val_main_v94_apply]
    unfold val_main_v93
    pointwise
    rw [val_main_v92_apply]
    refine Eq.trans (congrArg (val_main_v13 (F := Ideal) x4) ?_) (ref_cdf x4 ⟨0, by norm_num⟩)
    funext a; obtain rfl : a = 0 := Subsingleton.elim _ _; rfl
  have e101 : val_main_v101 (F := Ideal) x4 (ix1 d) = cdf 10000 (padded x4) 9999 := by
    rw [val_main_v101_apply]
    unfold val_main_v100
    pointwise
    rw [val_main_v99_apply]
    refine Eq.trans (congrArg (val_main_v13 (F := Ideal) x4) ?_) (ref_cdf x4 ⟨9999, by norm_num⟩)
    funext a; obtain rfl : a = 0 := Subsingleton.elim _ _; rfl
  have e4 : val_main_call4_v0 (F := Ideal) x3 (ix1 d) = padded x3 0 := by
    rw [val_main_call4_v0_apply]
    unfold val_main_v97
    pointwise
    rw [val_main_v96_apply, padded_at x3 ⟨0, by norm_num⟩]
    refine congrArg x3 ?_
    funext a; obtain rfl : a = 0 := Subsingleton.elim _ _; rfl
  have e67 : val_main_v67 (F := Ideal) (ix1 d) = Ideal.ofBits .f32 679477248#32 := rfl
  have e2 : val_main_call2_v1 (F := Ideal) (ix1 d) = (1 : EReal) := float_one
  rw [val_main_v105_apply, val_main_v102_apply, e101]
  refine (choice_gt _ _ _ _).trans ?_
  rw [if_neg hu, val_main_v98_apply, val_main_v95_apply, e94, e4]
  refine (choice_lt _ _ _ _).trans ?_
  unfold interpAt
  dsimp only
  rw [show (10000 : ℕ) - 1 = 9999 from rfl, ← hb]
  by_cases h0 : u (ix1 d) < cdf 10000 (padded x4) 0
  · rw [if_pos h0, if_pos h0]
  rw [if_neg h0, if_neg h0, val_main_v91_apply, val_main_v68_apply, val_main_v66_apply, val_main_v55_apply, e67, g45, g54, g77]
  refine (choice_le _ _ _ _).trans ?_
  refine if_congr Iff.rfl rfl ?_
  rw [val_main_v90_apply, val_main_v89_apply, val_main_v88_apply, val_main_v87_apply, val_main_v68_apply, val_main_v66_apply,
    val_main_v65_apply, val_main_v55_apply, val_main_v38_apply, e67, e2, g45, g54, g64, g86, g28, g37]
  have e := choice_le (FloatOps.absf (F := Ideal) (φ := .f32) (cdf 10000 (padded x4) b - cdf 10000 (padded x4) (b - 1)))
    (Ideal.ofBits .f32 679477248#32) (1 : EReal) (cdf 10000 (padded x4) b - cdf 10000 (padded x4) (b - 1))
  exact congrArg (fun t => padded x3 (b - 1) + Ideal.div (u (ix1 d) - cdf 10000 (padded x4) (b - 1)) t
    * (padded x3 b - padded x3 (b - 1))) e

end
end Cert.ReferenceIdeal.Reading
end
-- ==== Proof.Pre.lean ====
module

public import proofs.«01_k».proof.Proof.RefTime
public import proofs.«01_k».proof.Proof.Gen.Pre_drawn
public import Idealize.ShloMosaic.Lib.ReduceAll

@[expose] public section
set_option maxRecDepth 16384
noncomputable section

/-! The precondition, read as comparisons of numbers. -/

namespace Cert.Pre_drawn.Reading
open Cert.Pre_drawn Cert.Pre_drawn.Gen Idealize.ShloMosaic

variable (x0 : FVec Ideal S100000x6 .f32) (x1 x2 : FVec Ideal S100000 .f32) (x3 x4 : FVec Ideal S10000 .f32)
  (x5 x6 : FVec Ideal S2 .f32) (x7 x8 x9 x10 x11 : FVec Ideal S256 .f32)

/-- The greatest float is infinity. -/
theorem float_top : Ideal.ofBits .f32 2139095040#32 = ⊤ := by simp [Ideal.ofBits, Ideal.ieee]

/-- A true bit means that its proposition holds. -/
theorem of_decide (p : Prop) [Decidable p] (h : BitVec.ofBool (decide p) = 1#1) : p := by
  by_contra hp
  simp [hp] at h

/-- A true comparison "at least". -/
theorem ge_of (a b : EReal) (h : FloatOps.cmpf (F := Ideal) (φ := .f32) .oge a b = 1#1) : b ≤ a := of_decide (b ≤ a) h
/-- A true comparison "at most". -/
theorem le_of (a b : EReal) (h : FloatOps.cmpf (F := Ideal) (φ := .f32) .ole a b = 1#1) : a ≤ b := of_decide (a ≤ b) h
/-- A true comparison "greater". -/
theorem gt_of (a b : EReal) (h : FloatOps.cmpf (F := Ideal) (φ := .f32) .ogt a b = 1#1) : b < a := of_decide (b < a) h
/-- A true comparison "less". -/
theorem lt_of (a b : EReal) (h : FloatOps.cmpf (F := Ideal) (φ := .f32) .olt a b = 1#1) : a < b := of_decide (a < b) h

/-- The first and the second entry of a pair. -/
theorem first (x : FVec Ideal S2 .f32) : shapeCast S_ (extractStridedSlice S1 ![0] x slices_S2_S1_0) shapeCasts_S1_S_ ix0 = x (ix1 0) := by
  pointwise
/-- The second entry of a pair, as a scalar. -/
theorem second (x : FVec Ideal S2 .f32) : shapeCast S_ (extractStridedSlice S1 ![1] x slices_S2_S1_1) shapeCasts_S1_S_ ix0 = x (ix1 1) := by
  pointwise

/-- The sum of the density. -/
theorem total : Host.reduceAdd (F := Ideal) x4 (constant (F := Ideal) S_ .f32 0#32) reducesTo_S10000_S_d0 h_S_ ix0 = ∑ i : S10000.Idx, x4 i := by
  simp only [Host.reduceAdd, Ideal.hostReduceAdd_def]
  rw [Ideal.hostReduceAdd_total reducesTo_S10000_S_d0 (fun b => b.elim0) x4 _ ix0]
  exact (congrArg (· + _) Ideal.ofBits_zero_f32).trans (zero_add _)

/-- The density is not negative and has a positive finite sum, the excluded interval lies within the bounds, and no draw
    of an impact time exceeds one. -/
theorem drawn (h : fn (F := Ideal) x0 x1 x2 x3 x4 x5 x6 x7 x8 x9 x10 x11 = fun _ => 1#1) :
    (∀ i, 0 ≤ x4 i) ∧ 0 < ∑ i : S10000.Idx, x4 i ∧ ∑ i : S10000.Idx, x4 i < ⊤ ∧ 0 ≤ x6 (ix1 0) - x5 (ix1 0)
      ∧ 0 ≤ x5 (ix1 1) - x6 (ix1 1) ∧ ∀ d, x8 d ≤ 1 := by
  have e := congrFun h ix0
  unfold fn fn_part1 at e
  dsimp only at e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨h1, h2⟩ := IntOp.andi_eq_one.1 e
  haveI : Subsingleton S_.Idx := ⟨fun a b => funext fun k => k.elim0⟩
  have z : FloatOps.ofBits (F := Ideal) .f32 0#32 = (0 : EReal) := Ideal.ofBits_zero_f32
  have o : FloatOps.ofBits (F := Ideal) .f32 1065353216#32 = (1 : EReal) := Ideal.ofBits_one_f32
  refine ⟨fun i => ?_, ?_, ?_, ?_, ?_, fun d => ?_⟩
  · exact (ge_of _ _ (Host.reduce_andi_all _ _ _ _ ix0 h1 i)).trans' z.ge
  · have := gt_of _ _ h2
    rw [total] at this
    exact z.symm.le.trans_lt this
  · have := lt_of _ _ h3
    rw [total] at this
    exact this.trans_eq float_top
  · have := ge_of _ _ h4
    exact z.symm.le.trans (this.trans_eq (congrArg₂ (fun a b : EReal => a - b) (first x6) (first x5)))
  · have := ge_of _ _ h5
    exact z.symm.le.trans (this.trans_eq (congrArg₂ (fun a b : EReal => a - b) (second x5) (second x6)))
  · exact (le_of _ _ (Host.reduce_andi_all _ _ _ _ ix0 h6 d)).trans o.le

end Cert.Pre_drawn.Reading
end
-- ==== Proof.RefAngle.lean ====
module

public import proofs.«01_k».proof.Proof.RefTime

@[expose] public section
set_option maxRecDepth 16384
noncomputable section

/-! What the reference computes for the stream angles: the entry of the evaluation points at the number of running sums
    of the probabilities below the scaled draw. -/

namespace Cert.ReferenceIdeal.Reading
open Cert.ReferenceIdeal Cert.ReferenceIdeal.Gen Cert.ReferenceIdeal.Read Cert.Grid Idealize.ShloMosaic Idealize.SL.Sem
open Cert.KernelIdeal.Sampling (lin points mass cum side angle)

variable (x5 x6 : FVec Ideal S2 .f32) (u : FVec Ideal S256 .f32)

/-- The first and the second entry of a pair. -/
theorem first (x : FVec Ideal S2 .f32) (j : S_.Idx) :
    shapeCast S_ (extractStridedSlice S1 ![0] x slices_S2_S1_0) shapeCasts_S1_S_ j = x (ix1 0) := by
  obtain rfl : j = ix0 := Subsingleton.elim _ _
  pointwise
/-- The second entry of a pair, as a scalar. -/
theorem second (x : FVec Ideal S2 .f32) (j : S_.Idx) :
    shapeCast S_ (extractStridedSlice S1 ![1] x slices_S2_S1_1) shapeCasts_S1_S_ j = x (ix1 1) := by
  obtain rfl : j = ix0 := Subsingleton.elim _ _
  pointwise

/-- The positions of the equally spaced points but the last, as fractions of the length. -/
theorem fraction (k : Fin 999) :
    val_main_call6_v4 (F := Ideal) (ix1 k) = Ideal.div (k.val : EReal) (Ideal.ofBits .f32 1148829696#32) := by
  have h : val_main_call6_v2 (F := Ideal) (ix1 k) = (k.val : EReal) :=
    Cert.KernelIdeal.Sampling.sitofp_small k.val (by omega)
  rw [val_main_call6_v4_apply, h]
  rfl

/-- The complements of those fractions. -/
theorem complement (k : Fin 999) :
    val_main_call6_v7 (F := Ideal) (ix1 k) = 1 - Ideal.div (k.val : EReal) (Ideal.ofBits .f32 1148829696#32) := by
  rw [val_main_call6_v7_apply, fraction, val_main_call6_v6_apply, val_main_call6_cst_1_apply, float_one]
  rfl

/-- The equally spaced points from one number to another, with the second as the last point. -/
theorem spaced (a b : FVec Ideal S_ .f32) (k : Fin 1000) :
    concatenate S1000 0
      [⟨S999, addf (mulf (broadcastInDim S999 ![0] bcast_S1_S999_0 (shapeCast S1 a shapeCasts_S_S1)) (val_main_call6_v7 (F := Ideal)))
          (mulf (broadcastInDim S999 ![0] bcast_S1_S999_0 (shapeCast S1 b shapeCasts_S_S1)) (val_main_call6_v4 (F := Ideal)))⟩,
        ⟨S1, broadcastInDim S1 ![] bcast_S_S1 b⟩] concatenates_S999_S1_S1000_d0 (ix1 k) = lin (a ix0) (b ix0) k.val := by
  pointwise
  unfold lin
  by_cases h : k.val < 999
  · rw [dif_pos h, if_neg (by omega), fraction, complement]
  · rw [dif_neg h, if_pos (by omega)]

/-- The points on the lower and on the upper side. -/
theorem ref_lower (k : Fin 1000) : val_main_v110 (F := Ideal) x5 x6 (ix1 k) = lin (x5 (ix1 0)) (x6 (ix1 0)) k.val := by
  refine (spaced (val_main_v107 (F := Ideal) x5) (val_main_v109 (F := Ideal) x6) k).trans ?_
  rw [show val_main_v107 (F := Ideal) x5 ix0 = x5 (ix1 0) from first x5 _, show val_main_v109 (F := Ideal) x6 ix0 = x6 (ix1 0) from first x6 _]
/-- The angles of the upper segment. -/
theorem ref_upper (k : Fin 1000) : val_main_v115 (F := Ideal) x5 x6 (ix1 k) = lin (x6 (ix1 1)) (x5 (ix1 1)) k.val := by
  refine (spaced (val_main_v112 (F := Ideal) x6) (val_main_v114 (F := Ideal) x5) k).trans ?_
  rw [show val_main_v112 (F := Ideal) x6 ix0 = x6 (ix1 1) from second x6 _, show val_main_v114 (F := Ideal) x5 ix0 = x5 (ix1 1) from second x5 _]

/-- The evaluation points. -/
theorem ref_points (k : Fin 2000) : val_main_v118 (F := Ideal) x5 x6 (ix1 k)
    = points (x5 (ix1 0)) (x5 (ix1 1)) (x6 (ix1 0)) (x6 (ix1 1)) k.val := by
  unfold val_main_v118
  pointwise
  unfold points
  by_cases h : k.val < 1000
  · rw [dif_pos h, if_pos h, ref_lower]
  · rw [dif_neg h, if_neg h, ref_upper]

/-- The probability of a point on the lower and on the upper side. -/
def lowerMass : EReal := side (x6 (ix1 0) - x5 (ix1 0)) ((x6 (ix1 0) - x5 (ix1 0)) + (x5 (ix1 1) - x6 (ix1 1)))
/-- The probability of one angle of the upper segment. -/
def upperMass : EReal := side (x5 (ix1 1) - x6 (ix1 1)) ((x6 (ix1 0) - x5 (ix1 0)) + (x5 (ix1 1) - x6 (ix1 1)))

/-- The lengths of the two sides. -/
theorem ref_low (j : S_.Idx) : val_main_v123 (F := Ideal) x5 x6 j = x6 (ix1 0) - x5 (ix1 0) := by
  rw [val_main_v123_apply, show val_main_v120 (F := Ideal) x6 j = x6 (ix1 0) from first x6 j,
    show val_main_v122 (F := Ideal) x5 j = x5 (ix1 0) from first x5 j]
  rfl
/-- The length of the upper segment. -/
theorem ref_high (j : S_.Idx) : val_main_v128 (F := Ideal) x5 x6 j = x5 (ix1 1) - x6 (ix1 1) := by
  rw [val_main_v128_apply, show val_main_v125 (F := Ideal) x5 j = x5 (ix1 1) from second x5 j,
    show val_main_v127 (F := Ideal) x6 j = x6 (ix1 1) from second x6 j]
  rfl

/-- The probabilities of the points. -/
theorem ref_lower_mass (k : Fin 1000) : val_main_v136 (F := Ideal) x5 x6 (ix1 k) = lowerMass x5 x6 := by
  rw [val_main_v136_apply, val_main_v134_apply, val_main_cst_27_apply, float_one, val_main_v135_apply, val_main_v131_apply,
    val_main_v130_apply, val_main_v129_apply, ref_low, ref_high]
  exact one_mul _
/-- The probabilities of the upper segment. -/
theorem ref_upper_mass (k : Fin 1000) : val_main_v139 (F := Ideal) x5 x6 (ix1 k) = upperMass x5 x6 := by
  rw [val_main_v139_apply, val_main_v137_apply, val_main_cst_28_apply, float_one, val_main_v138_apply, val_main_v133_apply,
    val_main_v132_apply, val_main_v129_apply, ref_low, ref_high]
  exact one_mul _
/-- The probabilities of both segments. -/
theorem ref_mass (k : Fin 2000) : val_main_v142 (F := Ideal) x5 x6 (ix1 k) = mass (lowerMass x5 x6) (upperMass x5 x6) k.val := by
  unfold val_main_v142
  pointwise
  unfold mass
  by_cases h : k.val < 1000
  · rw [dif_pos h, if_pos h, ref_lower_mass]
  · rw [dif_neg h, if_neg h, ref_upper_mass]

/-- The running sums of the probabilities. -/
theorem ref_cum (k : Fin 2000) : val_main_v143 (F := Ideal) x5 x6 (ix1 k) = cum (lowerMass x5 x6) (upperMass x5 x6) k.val := by
  unfold val_main_v143
  refine running (N := 2000) (b := 1999) rfl _ _ (ref_mass x5 x6) _ ?_ reduceWindows_S2000_S2000_w2000s1p1999_0 h_S_ k
  rw [val_main_call12_call0_v0_apply]
  exact float_zero

/-- The scaled draw. -/
theorem ref_scaled (d : Fin 256) : val_main_v149 (F := Ideal) x5 x6 u (ix1 d)
    = cum (lowerMass x5 x6) (upperMass x5 x6) 1999 * (1 - u (ix1 d)) := by
  have e : val_main_v148 (F := Ideal) x5 x6 (ix1 d) = cum (lowerMass x5 x6) (upperMass x5 x6) 1999 := by
    rw [val_main_v148_apply]
    unfold val_main_v145
    pointwise
    rw [val_main_v144_apply]
    refine Eq.trans (congrArg (val_main_v143 (F := Ideal) x5 x6) ?_) (ref_cum x5 x6 ⟨1999, by norm_num⟩)
    funext a; obtain rfl : a = 0 := Subsingleton.elim _ _; rfl
  rw [val_main_v149_apply, e, val_main_v147_apply, val_main_v146_apply, val_main_cst_29_apply, float_one]
  rfl

/-- How many running sums are below the scaled draw. -/
theorem ref_below (d : Fin 256) : val_main_v156 (F := Ideal) x5 x6 u (ix1 d)
    = BitVec.ofNat 32 (count fun k : Fin 2000 => cum (lowerMass x5 x6) (upperMass x5 x6) k.val
        < cum (lowerMass x5 x6) (upperMass x5 x6) 1999 * (1 - u (ix1 d))) := by
  unfold val_main_v156 val_main_v155 val_main_c_30
  refine counted (n := 256) (k := 2000) (by norm_num) _ natLt_1_32 reducesTo_S256x2000_S256_d1 h_S_ d
    (fun k => cum (lowerMass x5 x6) (upperMass x5 x6) k < cum (lowerMass x5 x6) (upperMass x5 x6) 1999 * (1 - u (ix1 d))) fun q => ?_
  rw [val_main_v154_apply, val_main_v152_apply, val_main_v150_apply, val_main_v153_apply, val_main_v151_apply]
  have e1 : idx_main_v150 (idx_main_v152 (ix2 d q)) = ix1 q := by
    funext a; obtain rfl : a = 0 := Subsingleton.elim _ _; rfl
  have e2 : idx_main_v151 (idx_main_v153 (ix2 d q)) = ix1 d := by
    funext a; obtain rfl : a = 0 := Subsingleton.elim _ _; rfl
  rw [e1, e2, ref_cum, ref_scaled]
  show BitVec.ofBool (decide _) = 1#1 ↔ _
  by_cases h : cum (lowerMass x5 x6) (upperMass x5 x6) q.val
    < cum (lowerMass x5 x6) (upperMass x5 x6) 1999 * (1 - u (ix1 d)) <;> simp [h]

/-- The sampled angles. -/
theorem ref_angle (d : Fin 256) : val_main_v186 (F := Ideal) x5 x6 u (ix1 d)
    = angle (x5 (ix1 0)) (x5 (ix1 1)) (x6 (ix1 0)) (x6 (ix1 1)) (u (ix1 d)) := by
  have e163 : val_main_v163 (F := Ideal) x5 x6 u (ix1 d) = points (x5 (ix1 0)) (x5 (ix1 1)) (x6 (ix1 0)) (x6 (ix1 1))
      (min 1999 (count fun k : Fin 2000 => cum (lowerMass x5 x6) (upperMass x5 x6) k.val
        < cum (lowerMass x5 x6) (upperMass x5 x6) 1999 * (1 - u (ix1 d)))) :=
    (last_entry (val_main_v118 (F := Ideal) x5 x6) _ _ _ _ (count_le _) d (ref_below x5 x6 u d) rfl).trans
      (ref_points x5 x6 _)
  have e178 : val_main_v178 (F := Ideal) x5 u (ix1 d)
      = max (x5 (ix1 0)) (u (ix1 d) * (x5 (ix1 1) - x5 (ix1 0)) + x5 (ix1 0)) := by
    rw [val_main_v178_apply, val_main_v177_apply, val_main_v176_apply, val_main_v172_apply, val_main_v171_apply,
      val_main_v170_apply, val_main_v175_apply]
    rw [show ∀ j, val_main_v165 (F := Ideal) x5 j = x5 (ix1 0) from first x5, show ∀ j, val_main_v167 (F := Ideal) x5 j = x5 (ix1 1) from second x5,
      show ∀ j, val_main_v169 (F := Ideal) x5 j = x5 (ix1 0) from first x5, show ∀ j, val_main_v174 (F := Ideal) x5 j = x5 (ix1 0) from first x5]
    rfl
  unfold val_main_v186
  pointwise
  rw [val_main_v185_apply, val_main_v184_apply, val_main_v183_apply, val_main_cst_33_apply, float_zero, e163, e178,
    show ∀ j, val_main_v180 (F := Ideal) x6 j = x6 (ix1 1) from second x6, show ∀ j, val_main_v182 (F := Ideal) x6 j = x6 (ix1 0) from first x6]
  exact choice_gt _ _ _ _

end Cert.ReferenceIdeal.Reading
end
-- ==== Proof.RefMeans.lean ====
module

public import proofs.«01_k».proof.Proof.RefAngle

@[expose] public section
set_option maxRecDepth 16384
noncomputable section

/-! What the reference computes of the particles near each sampled angle, and its result by columns. -/

namespace Cert.ReferenceIdeal.Reading
open Cert.ReferenceIdeal Cert.ReferenceIdeal.Gen Cert.ReferenceIdeal.Read Cert.Grid Idealize.ShloMosaic Idealize.SL.Sem
open Cert.KernelIdeal.Sampling (near hit outCol)

variable (x0 : FVec Ideal S100000x6 .f32) (x1 x2 : FVec Ideal S100000 .f32) (x3 x4 : FVec Ideal S10000 .f32)
  (x5 x6 : FVec Ideal S2 .f32) (x7 x8 x9 x10 x11 : FVec Ideal S256 .f32)

/-- A truth value converted to a float, of two comparisons that hold together. -/
theorem both (a b : Prop) [Decidable a] [Decidable b] :
    FloatOps.uitofp (F := Ideal) .f32 (IntOp.andi (BitVec.ofBool (decide a)) (BitVec.ofBool (decide b))) = tic (a ∧ b) := by
  by_cases ha : a <;> by_cases hb : b <;> simp [ha, hb, tic, IntOp.andi, FloatOps.uitofp]

/-- The mask: which particles lie in the window around the sampled angle. -/
theorem ref_mask (d : Fin 256) (i : Fin 100000) : val_main_v245 (F := Ideal) x1 x5 x6 x9 (ix2 d i)
    = tic (near (val_main_v186 (F := Ideal) x5 x6 x9 (ix1 d)) (x1 (ix1 i))) := by
  have e1 : idx_main_v234 (idx_main_v236 (ix2 d i)) = ix1 i := by
    funext a; obtain rfl : a = 0 := Subsingleton.elim _ _; rfl
  have e2 : idx_main_v235 (idx_main_v237 (ix2 d i)) = ix1 d := by
    funext a; obtain rfl : a = 0 := Subsingleton.elim _ _; rfl
  have e3 : idx_main_v239 (idx_main_v241 (ix2 d i)) = ix1 i := by
    funext a; obtain rfl : a = 0 := Subsingleton.elim _ _; rfl
  have e4 : idx_main_v240 (idx_main_v242 (ix2 d i)) = ix1 d := by
    funext a; obtain rfl : a = 0 := Subsingleton.elim _ _; rfl
  rw [val_main_v245_apply, val_main_v244_apply, val_main_v238_apply, val_main_v243_apply, val_main_v236_apply, val_main_v234_apply,
    val_main_v237_apply, val_main_v235_apply, val_main_v241_apply, val_main_v239_apply, val_main_v242_apply, val_main_v240_apply,
    e1, e2, e3, e4, val_main_v231_apply, val_main_v233_apply]
  generalize val_main_v186 (F := Ideal) x5 x6 x9 (ix1 d) = s
  exact both _ _

/-- The number of particles in the window. -/
theorem ref_number (d : Fin 256) : val_main_v248 (F := Ideal) x1 x5 x6 x9 (ix1 d)
    = max (∑ i : Fin 100000, tic (near (val_main_v186 (F := Ideal) x5 x6 x9 (ix1 d)) (x1 (ix1 i)))) 1 := by
  rw [val_main_v248_apply, val_main_v246_apply, val_main_v247_apply, val_main_cst_49_apply, val_main_cst_50_apply, float_zero,
    float_one, zero_add]
  refine congrArg (max · (1 : EReal)) (Finset.sum_congr rfl fun i _ => ?_)
  rw [← ref_mask]
  congr 1
  funext a
  match a with | ⟨0, _⟩ => rfl | ⟨1, _⟩ => rfl

/-- The mean of the stream's rows in the window. -/
theorem ref_mean (d : Fin 256) (l : Fin 6) : val_main_v252 (F := Ideal) x0 x1 x5 x6 x9 (ix2 d l)
    = Ideal.div (∑ i : Fin 100000, tic (near (val_main_v186 (F := Ideal) x5 x6 x9 (ix1 d)) (x1 (ix1 i))) * x0 (ix2 i l))
      (max (∑ i : Fin 100000, tic (near (val_main_v186 (F := Ideal) x5 x6 x9 (ix1 d)) (x1 (ix1 i)))) 1) := by
  have e : idx_main_v250 (idx_main_v251 (ix2 d l)) = ix1 d := by
    funext a; obtain rfl : a = 0 := Subsingleton.elim _ _; rfl
  have h : val_main_v249 (F := Ideal) x0 x1 x5 x6 x9 (ix2 d l)
      = ∑ i : Fin 100000, tic (near (val_main_v186 (F := Ideal) x5 x6 x9 (ix1 d)) (x1 (ix1 i))) * x0 (ix2 i l) := by
    rw [val_main_v249_apply]
    refine Finset.sum_congr rfl fun i _ => ?_
    have e1 : lidx_main_v249 (ix2 d l) i = ix2 d i := by
      funext a; match a with | ⟨0, _⟩ => rfl | ⟨1, _⟩ => rfl
    have e2 : ridx_main_v249 (ix2 d l) i = ix2 i l := by
      funext a; match a with | ⟨0, _⟩ => rfl | ⟨1, _⟩ => rfl
    rw [e1, e2, ref_mask]
  rw [val_main_v252_apply, h, val_main_v251_apply, val_main_v250_apply, e, ref_number]
  rfl

/-- The mean of the stripping times in the window. -/
theorem ref_strip (d : Fin 256) : val_main_v257 (F := Ideal) x1 x2 x5 x6 x9 (ix1 d)
    = Ideal.div (∑ i : Fin 100000, tic (near (val_main_v186 (F := Ideal) x5 x6 x9 (ix1 d)) (x1 (ix1 i))) * x2 (ix1 i))
      (max (∑ i : Fin 100000, tic (near (val_main_v186 (F := Ideal) x5 x6 x9 (ix1 d)) (x1 (ix1 i)))) 1) := by
  have h : val_main_v256 (F := Ideal) x1 x2 x5 x6 x9 (ix1 d)
      = ∑ i : Fin 100000, tic (near (val_main_v186 (F := Ideal) x5 x6 x9 (ix1 d)) (x1 (ix1 i))) * x2 (ix1 i) := by
    rw [val_main_v256_apply, val_main_cst_51_apply, float_zero, zero_add]
    refine Finset.sum_congr rfl fun i _ => ?_
    have e : idx_main_v256 (ix1 d) i = ix2 d i := by
      funext a; match a with | ⟨0, _⟩ => rfl | ⟨1, _⟩ => rfl
    have e' : idx_main_v253 (idx_main_v254 (ix2 d i)) = ix1 i := by
      funext a; obtain rfl : a = 0 := Subsingleton.elim _ _; rfl
    rw [e, val_main_v255_apply, val_main_v254_apply, val_main_v253_apply, e', ref_mask]
    exact mul_comm _ _
  rw [val_main_v257_apply, h, ref_number]
  rfl

/-- A column kept from a vector. -/
theorem column (v : FVec Ideal S256 .f32) (d : Fin 256) (l : Fin 1) :
    broadcastInDim S256x1 ![0] bcast_S256_S256x1_0 v (ix2 d l) = v (ix1 d) := by
  pointwise

section
variable (k : Fin 3 → EReal) (s : Fin 2 → EReal) (a : Fin 8 → EReal)

/-- The output's columns one by one. -/
theorem outCol_0 (h : 0 < 12) : outCol k s a ⟨0, h⟩ = k 0 := rfl
/-- Column 1 holds the sampled time. -/
theorem outCol_1 (h : 1 < 12) : outCol k s a ⟨1, h⟩ = s 0 := rfl
/-- Column 2 holds the sampled angle. -/
theorem outCol_2 (h : 2 < 12) : outCol k s a ⟨2, h⟩ = s 1 := rfl
/-- Column 3 holds the direction. -/
theorem outCol_3 (h : 3 < 12) : outCol k s a ⟨3, h⟩ = k 1 := rfl
/-- Column 4 holds the velocity. -/
theorem outCol_4 (h : 4 < 12) : outCol k s a ⟨4, h⟩ = k 2 := rfl
/-- Column 5 holds the mean stripping time. -/
theorem outCol_5 (h : 5 < 12) : outCol k s a ⟨5, h⟩ = Ideal.div (a 6) (max (a 7) 1) := rfl
/-- The columns from 6 on hold the means of the stars' six numbers. -/
theorem outCol_mean (j : Fin 12) (h : 6 ≤ j.val) : outCol k s a j = Ideal.div (a ⟨j.val - 6, by omega⟩) (max (a 7) 1) := dif_pos h

end

/-- The first six columns side by side with a matrix of six, read at a column. -/
theorem ref_columns (v0 v1 v2 v3 v4 v5 : FVec Ideal S256x1 .f32) (w : FVec Ideal S256x6 .f32) (d : Fin 256) (j : Fin 12) :
    concatenate S256x12 1 [⟨S256x1, v0⟩, ⟨S256x1, v1⟩, ⟨S256x1, v2⟩, ⟨S256x1, v3⟩, ⟨S256x1, v4⟩, ⟨S256x1, v5⟩, ⟨S256x6, w⟩]
      concatenates_S256x1_S256x1_S256x1_S256x1_S256x1_S256x1_S256x6_S256x12_d1 (ix2 d j)
    = if h : 6 ≤ j.val then w (ix2 d ⟨j.val - 6, by omega⟩)
      else ![v0 (ix2 d 0), v1 (ix2 d 0), v2 (ix2 d 0), v3 (ix2 d 0), v4 (ix2 d 0), v5 (ix2 d 0)] ⟨j.val, by omega⟩ := by
  pointwise
  by_cases h6 : 6 ≤ j.val
  · rw [dif_neg (by omega), dif_neg (by omega), dif_neg (by omega), dif_neg (by omega), dif_neg (by omega), dif_neg (by omega),
      dif_pos h6]
    exact congrArg (fun l => w (ix2 d l)) (Fin.ext (by show j.val - 1 - 1 - 1 - 1 - 1 - 1 = j.val - 6; omega))
  rw [dif_neg h6]
  obtain ⟨n, hn⟩ := j
  dsimp only at h6 ⊢
  interval_cases n <;> rfl

/-- The result, by columns. -/
theorem ref_output (d : Fin 256) (j : Fin 12) :
    val_main_v264 (F := Ideal) x0 x1 x2 x3 x4 x5 x6 x7 x8 x9 x10 x11 (ix2 d j)
    = outCol ![val_main_v5 (F := Ideal) x7 (ix1 d), val_main_v192 (F := Ideal) x10 (ix1 d), val_main_v229 (F := Ideal) x11 (ix1 d)]
      ![val_main_v105 (F := Ideal) x3 x4 x8 (ix1 d), val_main_v186 (F := Ideal) x5 x6 x9 (ix1 d)]
      (fun k => ∑ i : Fin 100000, hit (fun i => x1 (ix1 i)) (fun i => x2 (ix1 i)) (fun i l => x0 (ix2 i l)) k
        (val_main_v186 (F := Ideal) x5 x6 x9 (ix1 d)) i) j := by
  generalize hsum : (fun k => ∑ i : Fin 100000, hit (fun i => x1 (ix1 i)) (fun i => x2 (ix1 i)) (fun i l => x0 (ix2 i l)) k
        (val_main_v186 (F := Ideal) x5 x6 x9 (ix1 d)) i) = a
  have hw : ∀ i : Fin 100000, ∀ s : EReal, hit (fun i => x1 (ix1 i)) (fun i => x2 (ix1 i)) (fun i l => x0 (ix2 i l)) 7 s i
      = tic (near s (x1 (ix1 i))) := fun i s => by
    unfold hit; rw [dif_neg (by decide), if_neg (by decide), mul_one]
  have hs : ∀ i : Fin 100000, ∀ s : EReal, hit (fun i => x1 (ix1 i)) (fun i => x2 (ix1 i)) (fun i l => x0 (ix2 i l)) 6 s i
      = tic (near s (x1 (ix1 i))) * x2 (ix1 i) := fun i s => by
    unfold hit; rw [dif_neg (by decide), if_pos (by decide)]
  have hl : ∀ i : Fin 100000, ∀ s : EReal, ∀ k : Fin 8, ∀ h : k.val < 6,
      hit (fun i => x1 (ix1 i)) (fun i => x2 (ix1 i)) (fun i l => x0 (ix2 i l)) k s i
      = tic (near s (x1 (ix1 i))) * x0 (ix2 i ⟨k.val, h⟩) := fun i s k h => by
    unfold hit; rw [dif_pos h]
  have h7 : max (∑ i : Fin 100000, tic (near (val_main_v186 (F := Ideal) x5 x6 x9 (ix1 d)) (x1 (ix1 i)))) 1 = max (a 7) 1 := by
    rw [← hsum, Finset.sum_congr rfl fun i _ => (hw i _).symm]
  unfold val_main_v264
  rw [ref_columns]
  by_cases h6 : 6 ≤ j.val
  · rw [dif_pos h6, outCol_mean _ _ _ j h6, ref_mean, h7, ← hsum]
    have e : ∀ i : Fin 100000, tic (near (val_main_v186 (F := Ideal) x5 x6 x9 (ix1 d)) (x1 (ix1 i))) * x0 (ix2 i ⟨j.val - 6, by omega⟩)
      = hit (fun i => x1 (ix1 i)) (fun i => x2 (ix1 i)) (fun i l => x0 (ix2 i l)) ⟨j.val - 6, by omega⟩
        (val_main_v186 (F := Ideal) x5 x6 x9 (ix1 d)) i := fun i => (hl i _ ⟨j.val - 6, by omega⟩ (by show j.val - 6 < 6; omega)).symm
    rw [Finset.sum_congr rfl fun i _ => e i]
  rw [dif_neg h6]
  have h5 : val_main_v263 (F := Ideal) x1 x2 x5 x6 x9 (ix2 d 0) = Ideal.div (a 6) (max (a 7) 1) := by
    refine (column (val_main_v257 (F := Ideal) x1 x2 x5 x6 x9) d 0).trans ?_
    rw [ref_strip, h7, ← hsum, Finset.sum_congr rfl fun i _ => (hs i _).symm]
  rw [show val_main_v258 (F := Ideal) x7 (ix2 d 0) = val_main_v5 (F := Ideal) x7 (ix1 d) from column _ d 0,
    show val_main_v259 (F := Ideal) x3 x4 x8 (ix2 d 0) = val_main_v105 (F := Ideal) x3 x4 x8 (ix1 d) from column _ d 0,
    show val_main_v260 (F := Ideal) x5 x6 x9 (ix2 d 0) = val_main_v186 (F := Ideal) x5 x6 x9 (ix1 d) from column _ d 0,
    show val_main_v261 (F := Ideal) x10 (ix2 d 0) = val_main_v192 (F := Ideal) x10 (ix1 d) from column _ d 0,
    show val_main_v262 (F := Ideal) x11 (ix2 d 0) = val_main_v229 (F := Ideal) x11 (ix1 d) from column _ d 0, h5]
  clear h5 h7 hl hs hw hsum
  generalize val_main_v5 (F := Ideal) x7 (ix1 d) = y0
  generalize val_main_v105 (F := Ideal) x3 x4 x8 (ix1 d) = y1
  generalize val_main_v186 (F := Ideal) x5 x6 x9 (ix1 d) = y2
  generalize val_main_v192 (F := Ideal) x10 (ix1 d) = y3
  generalize val_main_v229 (F := Ideal) x11 (ix1 d) = y4
  obtain ⟨n, hn⟩ := j
  dsimp only at h6 ⊢
  interval_cases n
  · exact (outCol_0 ![y0, y3, y4] ![y1, y2] a hn).symm
  · exact (outCol_1 ![y0, y3, y4] ![y1, y2] a hn).symm
  · exact (outCol_2 ![y0, y3, y4] ![y1, y2] a hn).symm
  · exact (outCol_3 ![y0, y3, y4] ![y1, y2] a hn).symm
  · exact (outCol_4 ![y0, y3, y4] ![y1, y2] a hn).symm
  · exact (outCol_5 ![y0, y3, y4] ![y1, y2] a hn).symm

end Cert.ReferenceIdeal.Reading
end
-- ==== Proof.Equation.lean ====
module

public import proofs.«01_k».proof.Proof.Facts
public import proofs.«01_k».proof.Proof.Pre
public import proofs.«01_k».proof.Proof.RefMeans

@[expose] public section
set_option maxRecDepth 16384
noncomputable section

/-! The equation: under the precondition the kernel's output is the reference's, entry by entry. -/

namespace Cert.KernelIdeal.Sampling
open Cert.KernelIdeal Cert.KernelIdeal.Gen Cert.KernelIdeal.Value Cert.Grid Idealize.ShloMosaic Idealize.SL.Sem
open Cert.ReferenceIdeal.Reading (ref_output ref_time ref_angle sum_entries padded_at)

section
variable (x4 : FVec Ideal Cert.ReferenceIdeal.S10000 .f32) (x5 x6 : FVec Ideal Cert.ReferenceIdeal.S2 .f32)
  (x8 : FVec Ideal Cert.ReferenceIdeal.S256 .f32)

/-- What the precondition says of the arguments. -/
structure Drawn : Prop where
  density : ∀ i, 0 ≤ padded x4 i
  positive : 0 < ∑ i ∈ Finset.range 10000, padded x4 i
  finite : ∑ i ∈ Finset.range 10000, padded x4 i < ⊤
  low : 0 ≤ x6 (ix1 0) - x5 (ix1 0)
  high : 0 ≤ x5 (ix1 1) - x6 (ix1 1)
  draw : ∀ d : Fin 256, x8 (ix1 d) ≤ 1

variable {x4 x5 x6 x8}

/-- What the precondition says of the density, the intervals and the draws. -/
theorem drawn_of {x0 : FVec Ideal Cert.ReferenceIdeal.S100000x6 .f32} {x1 x2 : FVec Ideal Cert.ReferenceIdeal.S100000 .f32}
    {x3 : FVec Ideal Cert.ReferenceIdeal.S10000 .f32} {x7 x9 x10 x11 : FVec Ideal Cert.ReferenceIdeal.S256 .f32}
    (h : Cert.Pre_drawn.fn (F := Ideal) x0 x1 x2 x3 x4 x5 x6 x7 x8 x9 x10 x11 = fun _ => 1#1) : Drawn x4 x5 x6 x8 := by
  obtain ⟨h1, h2, h3, h4, h5, h6⟩ := Cert.Pre_drawn.Reading.drawn x0 x1 x2 x3 x4 x5 x6 x7 x8 x9 x10 x11 h
  have e := sum_entries x4
  refine ⟨fun i => ?_, e ▸ h2, e ▸ h3, h4, h5, fun d => h6 (ix1 d)⟩
  unfold padded
  split
  · exact h1 _
  · exact le_refl _

/-- The zeros after the density. -/
theorem padded_zero (x : FVec Ideal Cert.ReferenceIdeal.S10000 .f32) (i : ℕ) (hi : 10000 ≤ i) : padded x i = 0 := dif_neg (by omega)

end

variable {m : (ℓ : Loc nD τ sig) → Buf (Elt Ideal) ℓ} {c : Dev nD}
  (D : Drawn (m (c.tc.loc main_arg4)) (m (c.tc.loc main_arg5)) (m (c.tc.loc main_arg6)) (m (c.tc.loc main_arg8)))
include D

/-- What the host hands to the kernel's blocks. -/
theorem handed : Handed m c (fun i => m (c.tc.loc main_arg1) (ix1 i)) (fun i => m (c.tc.loc main_arg2) (ix1 i))
    (fun i l => m (c.tc.loc main_arg0) (ix2 i l)) (padded (m (c.tc.loc main_arg4))) (padded (m (c.tc.loc main_arg3)))
    (m (c.tc.loc main_arg5) (ix1 0)) (m (c.tc.loc main_arg5) (ix1 1)) (m (c.tc.loc main_arg6) (ix1 0)) (m (c.tc.loc main_arg6) (ix1 1)) where
  hp t y := host_positions m c t y
  hq i := host_times m c i
  hA i l := congrFun (V_main_arg0 m c) _
  hf r l := host_ts m c r l
  hx r l := host_pdf m c r l
  h0 := host_b0 m c
  h1 := host_b1 m c
  h2 := host_e0 m c
  h3 := host_e1 m c
  hcdf i j hij _ := by
    rw [cdf_more _ (padded_zero _) D.positive]
    exact cdf_grows _ D.density D.positive D.finite i j hij
  hcum i j hij := cum_grows _ _ D.low D.high i j hij

/-- The impact times and the stream angles are the reference's. -/
theorem same_time (d : Fin 256) : timeOf m c (padded (m (c.tc.loc main_arg4))) (padded (m (c.tc.loc main_arg3))) d
    = Cert.ReferenceIdeal.Read.val_main_v105 (F := Ideal) (m (c.tc.loc main_arg3)) (m (c.tc.loc main_arg4)) (m (c.tc.loc main_arg8)) (ix1 d) := by
  have hu : ¬ cdf 10000 (padded (m (c.tc.loc main_arg4))) 9999 < m (c.tc.loc main_arg8) (ix1 d) := by
    rw [cdf_last _ D.density D.positive D.finite]
    exact not_lt.2 (D.draw d)
  refine Eq.trans ?_ (ref_time (m (c.tc.loc main_arg3)) (m (c.tc.loc main_arg4)) (m (c.tc.loc main_arg8)) d hu).symm
  unfold timeOf
  rw [cdf_more _ (padded_zero _) D.positive, host_ut]

omit D in
/-- The kernel's sampled angle is the reference's. -/
theorem same_angle (d : Fin 256) : angleOf m c (m (c.tc.loc main_arg5) (ix1 0)) (m (c.tc.loc main_arg5) (ix1 1)) (m (c.tc.loc main_arg6) (ix1 0))
      (m (c.tc.loc main_arg6) (ix1 1)) d
    = Cert.ReferenceIdeal.Read.val_main_v186 (F := Ideal) (m (c.tc.loc main_arg5)) (m (c.tc.loc main_arg6)) (m (c.tc.loc main_arg9)) (ix1 d) := by
  refine Eq.trans ?_ (ref_angle (m (c.tc.loc main_arg5)) (m (c.tc.loc main_arg6)) (m (c.tc.loc main_arg9)) d).symm
  unfold angleOf
  rw [host_uc]

omit D in
/-- The columns that the host computes are the reference's. -/
theorem same_columns (d : Fin 256) : (fun k : Fin 3 => V m c main_v52 (ix2 d k))
    = ![Cert.ReferenceIdeal.Read.val_main_v5 (F := Ideal) (m (c.tc.loc main_arg7)) (ix1 d),
      Cert.ReferenceIdeal.Read.val_main_v192 (F := Ideal) (m (c.tc.loc main_arg10)) (ix1 d),
      Cert.ReferenceIdeal.Read.val_main_v229 (F := Ideal) (m (c.tc.loc main_arg11)) (ix1 d)] := by
  have e0 := host_column0 m c d
  have e1 := host_column1 m c d
  have e2 := host_column2 m c d
  generalize V m c main_v52 = W at e0 e1 e2 ⊢
  rw [← e0, ← e1, ← e2]
  funext k
  match k with
  | 0 => rfl
  | 1 => rfl
  | 2 => rfl

/-- The kernel's output is the reference's, entry by entry. -/
theorem equation (d : Fin 256) (j : Fin 12) : G9 m c (ix2 d j)
    = Cert.ReferenceIdeal.Read.val_main_v264 (F := Ideal) (m (c.tc.loc main_arg0))
    (m (c.tc.loc main_arg1)) (m (c.tc.loc main_arg2)) (m (c.tc.loc main_arg3)) (m (c.tc.loc main_arg4)) (m (c.tc.loc main_arg5))
    (m (c.tc.loc main_arg6)) (m (c.tc.loc main_arg7)) (m (c.tc.loc main_arg8)) (m (c.tc.loc main_arg9)) (m (c.tc.loc main_arg10))
    (m (c.tc.loc main_arg11)) (ix2 d j) := by
  refine (output (handed D) d j).trans ?_
  rw [same_columns, same_time D, same_angle]
  exact (ref_output (m (c.tc.loc main_arg0)) (m (c.tc.loc main_arg1)) (m (c.tc.loc main_arg2)) (m (c.tc.loc main_arg3)) (m (c.tc.loc main_arg4)) (m (c.tc.loc main_arg5))
    (m (c.tc.loc main_arg6)) (m (c.tc.loc main_arg7)) (m (c.tc.loc main_arg8)) (m (c.tc.loc main_arg9)) (m (c.tc.loc main_arg10))
    (m (c.tc.loc main_arg11)) d j).symm

end Cert.KernelIdeal.Sampling
end
-- ==== Proof.lean ====
module

public import proofs.«01_k».proof.Defs
public import proofs.«01_k».proof.Proof.Equation
public import proofs.«01_k».proof.Proof.Gen.Kernel.Frame
public import proofs.«01_k».proof.Proof.Gen.ReferenceIdeal.Run
public import Idealize.ShloMosaic.Adequacy
public import Idealize.ShloMosaic.Init
public import Idealize.ShloMosaic.Lib.Quiescent

@[expose] public section

noncomputable section

/-! The claims, assembled from the modules under `Proof`. -/

namespace Cert.Proof

open Idealize.ShloMosaic Idealize.SL.Sem

/-- The reference runs to the end and leaves its arguments as they were. -/
theorem quiescentRI : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From memories that agree on the arguments and meet the precondition, the kernel and the reference end with the same
    result, over the extended reals. -/
theorem equal : algebraic_KernelIdeal_ReferenceIdeal_pre_drawn := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v264_eq]
  obtain ⟨a0, a1, a2, a3, a4, a5, a6, a7, a8, a9, a10, a11⟩ := hagree c
  have D := Cert.KernelIdeal.Sampling.drawn_of (hpre c)
  clear h hpre hagree
  simp only [StableHlo.launchContents_devRef, a0, a1, a2, a3, a4, a5, a6, a7, a8, a9, a10, a11]
  funext i
  obtain ⟨d, j, rfl⟩ : ∃ (d : Fin 256) (j : Fin 12), i = ix2 d j := ⟨i 0, i 1, eq_ix2 i⟩
  exact (Cert.KernelIdeal.Sampling.equation D d j).symm

/-- All the claims. -/
theorem claim : Cert.Claim := ⟨Cert.Kernel.Gen.facts, Cert.KernelIdeal.Gen.facts, Cert.ReferenceIdeal.Gen.facts, Cert.Pre_drawn.Gen.facts,
  fun m ρ _ => Cert.Kernel.Gen.frame m ρ, fun m ρ _ => Cert.KernelIdeal.Gen.frame m ρ, fun m ρ _ => Cert.KernelIdeal.Gen.frame m ρ, quiescentRI,
  fun m ρ _ => quiescentRI m ρ trivial, (trivial : preserves_Kernel_KernelIdeal), equal⟩

end Cert.Proof

end
